-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)
  ∧ IdealRules.named_const.Statement Cert.KernelIdeal.κ "scale" .f32 0x3DB504F3#32 (((Real.sqrt 128)⁻¹ : ℝ) : EReal)
  ∧ IdealRules.named_const.Statement Cert.KernelIdeal.κ "penalty" .f32 0x4E6E6B28#32 ⊤
  ∧ IdealRules.named_const.Statement Cert.KernelIdeal.κ "mask" .f32 0xCE6E6B28#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S1x2048x2048 : Shape := ⟨3, ![1, 2048, 2048]⟩
abbrev S1x2048x128 : Shape := ⟨3, ![1, 2048, 128]⟩
abbrev S2048x2048 : Shape := ⟨2, ![2048, 2048]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S1x2048x128 : S_.BroadcastsInDim S1x2048x128 (![] : Fin 0 → Fin S1x2048x128.rank)
  reducesTo_S1x2048x128_S_d0_1_2 : S1x2048x128.ReducesTo [0, 1, 2] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S2048x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  main_v23

def fn {F : FTy → Type} [FloatOps F] (main_arg0 : FVec F S1x2048x2048 .f32) (main_arg1 : FVec F S1x2048x128 .f32) (main_arg2 : FVec F S1x2048x128 .f32) (main_arg3 : FVec F S2048x2048 .f32) (main_arg4 : FVec F S2048x2048 .f32) (main_arg5 : FVec F S2048x2048 .f32) (main_arg6 : FVec F S2048x2048 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S1x2048x128 .f32 := Host.absf main_arg1
  let main_cst_0 : FVec F S_ .f32 := constant S_ .f32 0x7F800000#32
  let main_v5 : FVec F S1x2048x128 .f32 := broadcastInDim S1x2048x128 ![] bcast_S_S1x2048x128 main_cst_0
  let main_v6 : IVec S1x2048x128 1 := cmpf .olt main_v4 main_v5
  let main_c_1 : IVec S_ 1 := constantI S_ 1 1#1
  let main_v7 : IVec S_ 1 := (fun x v => Host.reduce IntOp.andi x v reducesTo_S1x2048x128_S_d0_1_2 h_S_) main_v6 main_c_1
  let main_v8 : IVec S_ 1 := andi main_v3 main_v7
  let main_v9 : FVec F S1x2048x128 .f32 := Host.absf main_arg2
  let main_cst_2 : FVec F S_ .f32 := constant S_ .f32 0x7F800000#32
  let main_v10 : FVec F S1x2048x128 .f32 := broadcastInDim S1x2048x128 ![] bcast_S_S1x2048x128 main_cst_2
  let main_v11 : IVec S1x2048x128 1 := cmpf .olt main_v9 main_v10
  let main_c_3 : IVec S_ 1 := constantI S_ 1 1#1
  let main_v12 : IVec S_ 1 := (fun x v => Host.reduce IntOp.andi x v reducesTo_S1x2048x128_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S1x2048x2048 : Shape := ⟨3, ![1, 2048, 2048]⟩
abbrev S1x2048x128 : Shape := ⟨3, ![1, 2048, 128]⟩
abbrev S2048x2048 : Shape := ⟨2, ![2048, 2048]⟩
abbrev S16x2048 : Shape := ⟨2, ![16, 2048]⟩
abbrev S2048x128 : Shape := ⟨2, ![2048, 128]⟩
abbrev S16x1x2048 : Shape := ⟨3, ![16, 1, 2048]⟩
abbrev S256x2048 : Shape := ⟨2, ![256, 2048]⟩
abbrev S256x128 : Shape := ⟨2, ![256, 128]⟩
abbrev S2x1x2048 : Shape := ⟨3, ![2, 1, 2048]⟩
abbrev S256x64 : Shape := ⟨2, ![256, 64]⟩
abbrev S128x2048 : Shape := ⟨2, ![128, 2048]⟩
abbrev S2048 : Shape := ⟨1, ![2048]⟩
abbrev S1x1x2048 : Shape := ⟨3, ![1, 1, 2048]⟩
abbrev S16x16x2048 : Shape := ⟨3, ![16, 16, 2048]⟩
abbrev S16x1x128 : Shape := ⟨3, ![16, 1, 128]⟩
abbrev S1x16x2048 : Shape := ⟨3, ![1, 16, 2048]⟩
abbrev S16x128 : Shape := ⟨2, ![16, 128]⟩
abbrev S16x16 : Shape := ⟨2, ![16, 16]⟩
abbrev S16x2x8x2048 : Shape := ⟨4, ![16, 2, 8, 2048]⟩
abbrev S1024x2048 : Shape := ⟨2, ![1024, 2048]⟩
abbrev S1024x128 : Shape := ⟨2, ![1024, 128]⟩
abbrev S1x1x8x2048 : Shape := ⟨4, ![1, 1, 8, 2048]⟩
abbrev S1024x1024 : Shape := ⟨2, ![1024, 1024]⟩
abbrev S128x1024 : Shape := ⟨2, ![128, 1024]⟩
abbrev S128x1 : Shape := ⟨2, ![128, 1]⟩
abbrev S1x1x1x1024 : Shape := ⟨4, ![1, 1, 1, 1024]⟩
abbrev S1x1024 : Shape := ⟨2, ![1, 1024]⟩
abbrev S128 : Shape := ⟨1, ![128]⟩
abbrev S1024x1 : Shape := ⟨2, ![1024, 1]⟩
abbrev S1x1x1x2048 : Shape := ⟨4, ![1, 1, 1, 2048]⟩
abbrev S1x2048 : Shape := ⟨2, ![1, 2048]⟩
abbrev S512x2048 : Shape := ⟨2, ![512, 2048]⟩

abbrev nBuf : Space → Nat
  | .hbm => 24
  | .vmem => 53
  | .smem => 0
  | _ => 0

abbrev bufTy : (tb : Table) → Fin (tcTables nBuf tb) → BufTy
  | .hbm, ⟨0, _⟩ => ⟨S1x2048x2048, .f32⟩
  | .hbm, ⟨1, _⟩ => ⟨S1x2048x128, .f32⟩
  | .hbm, ⟨2, _⟩ => ⟨S1x2048x128, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S16x2048, .f32⟩
  | .hbm, ⟨8, _⟩ => ⟨S2048x2048, .f32⟩
  | .hbm, ⟨9, _⟩ => ⟨S2048x128, .f32⟩
  | .hbm, ⟨10, _⟩ => ⟨S2048x128, .f32⟩
  | .hbm, ⟨11, _⟩ => ⟨S2048x2048, .bf16⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S16x1x2048, .f32⟩
  | .hbm, ⟨16, _⟩ => ⟨S16x1x2048, .f32⟩
  | .hbm, ⟨17, _⟩ => ⟨S16x16x2048, .f32⟩
  | .hbm, ⟨18, _⟩ => ⟨S16x2x8x2048, .f32⟩
  | .hbm, ⟨19, _⟩ => ⟨S1024x2048, .bf16⟩
  | .hbm, ⟨20, _⟩ => ⟨S1024x2048, .bf16⟩
  | .hbm, ⟨21, _⟩ => ⟨S2048x2048, .bf16⟩
  | .hbm, ⟨22, _⟩ => ⟨S2048x2048, .f32⟩
  | .hbm, ⟨23, _⟩ => ⟨S1x2048x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .f32⟩
  | .local _ .vmem, ⟨3, _⟩ => ⟨S2048x2048, .f32⟩
  | .local _ .vmem, ⟨4, _⟩ => ⟨S2048x2048, .bf16⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S2x1x2048, .f32⟩
  | .local _ .vmem, ⟨16, _⟩ => ⟨S2x1x2048, .f32⟩
  | .local _ .vmem, ⟨17, _⟩ => ⟨S2x1x2048, .f32⟩
  | .local _ .vmem, ⟨18, _⟩ => ⟨S2x1x2048, .f32⟩
  | .local _ .vmem, ⟨19, _⟩ => ⟨S16x1x128, .f32⟩
  | .local _ .vmem, ⟨20, _⟩ => ⟨S16x1x128, .f32⟩
  | .local _ .vmem, ⟨21, _⟩ => ⟨S16x1x128, .f32⟩
  | .local _ .vmem, ⟨22, _⟩ => ⟨S16x1x128, .f32⟩
  | .local _ .vmem, ⟨23, _⟩ => ⟨S16x2048, .f32⟩
  | .local _ .vmem, ⟨24, _⟩ => ⟨S1x16x2048, .f32⟩
  | .local _ .vmem, ⟨25, _⟩ => ⟨S1x16x2048, .f32⟩
  | .local _ .vmem, ⟨26, _⟩ => ⟨S1024x128, .bf16⟩
  | .local _ .vmem, ⟨27, _⟩ => ⟨S1024x128, .bf16⟩
  | .local _ .vmem, ⟨28, _⟩ => ⟨S1024x128, .bf16⟩
  | .local _ .vmem, ⟨29, _⟩ => ⟨S1024x128, .bf16⟩
  | .local _ .vmem, ⟨30, _⟩ => ⟨S1024x128, .bf16⟩
  | .local _ .vmem, ⟨31, _⟩ => ⟨S1024x128, .bf16⟩
  | .local _ .vmem, ⟨32, _⟩ => ⟨S1x1x8x2048, .f32⟩
  | .local _ .vmem, ⟨33, _⟩ => ⟨S1x1x8x2048, .f32⟩
  | .local _ .vmem, ⟨34, _⟩ => ⟨S1024x128, .bf16⟩
  | .local _ .vmem, ⟨35, _⟩ => ⟨S1024x128, .bf16⟩
  | .local _ .vmem, ⟨36, _⟩ => ⟨S1024x128, .bf16⟩
  | .local _ .vmem, ⟨37, _⟩ => ⟨S1024x128, .bf16⟩
  | .local _ .vmem, ⟨38, _⟩ => ⟨S2048x128, .bf16⟩
  | .local _ .vmem, ⟨39, _⟩ => ⟨S2048x128, .bf16⟩
  | .local _ .vmem, ⟨40, _⟩ => ⟨S2048x128, .bf16⟩
  | .local _ .vmem, ⟨41, _⟩ => ⟨S2048x128, .bf16⟩
  | .local _ .vmem, ⟨42, _⟩ => ⟨S1x1x8x2048, .f32⟩
  | .local _ .vmem, ⟨43, _⟩ => ⟨S1x1x8x2048, .f32⟩
  | .local _ .vmem, ⟨44, _⟩ => ⟨S1024x128, .bf16⟩
  | .local _ .vmem, ⟨45, _⟩ => ⟨S1024x128, .bf16⟩
  | .local _ .vmem, ⟨46, _⟩ => ⟨S512x2048, .bf16⟩
  | .local _ .vmem, ⟨47, _⟩ => ⟨S512x2048, .bf16⟩
  | .local _ .vmem, ⟨48, _⟩ => ⟨S512x2048, .bf16⟩
  | .local _ .vmem, ⟨49, _⟩ => ⟨S512x2048, .bf16⟩
  | .local _ .vmem, ⟨50, _⟩ => ⟨S2048x2048, .bf16⟩
  | .local _ .vmem, ⟨51, _⟩ => ⟨S512x2048, .f32⟩
  | .local _ .vmem, ⟨52, _⟩ => ⟨S512x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg3_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc3_stg4_0 : Ref sig .tc := ⟨.vmem, 44, rfl⟩
abbrev cc3_stg4_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg3_0 : Ref sig .tc := ⟨.vmem, 51, rfl⟩
abbrev cc4_stg3_1 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem3_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem4_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc3_sem4_0 : DmaSem sig := 44
abbrev cc3_sem4_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem3_0 : DmaSem sig := 51
abbrev cc4_sem3_1 : DmaSem sig := 52

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x1x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x16x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x8x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c1_i32 : BitVec 32 := 1#32
  let c0_i32 : BitVec 32 := 0#32
  ![c1_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S1024x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x8x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1024x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc4_transform_1 (i : grid4.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S2048x2048 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]
-- ==== KernelIdeal.lean ====
variable {F : FTy → Type} [FloatOps F] [Named F]
def κ : String → Option EReal := fun
  | "mask" => some ⊥
  | "penalty" => some ⊤
  | "scale" => some (((Real.sqrt 128)⁻¹ : ℝ) : EReal)
  | "scale_log2e" => some (((Real.sqrt 128)⁻¹ * (Real.log 2)⁻¹ : ℝ) : EReal)
  | _ => none
-- ==== ReferenceIdeal.lean ====
abbrev S1x2048x2048 : Shape := ⟨3, ![1, 2048, 2048]⟩
abbrev S1x2048x128 : Shape := ⟨3, ![1, 2048, 128]⟩
abbrev S2048x2048 : Shape := ⟨2, ![2048, 2048]⟩
abbrev S2048x128 : Shape := ⟨2, ![2048, 128]⟩
abbrev S2048x16x128 : Shape := ⟨3, ![2048, 16, 128]⟩
abbrev S16x2048x128 : Shape := ⟨3, ![16, 2048, 128]⟩
abbrev S16x2048x64 : Shape := ⟨3, ![16, 2048, 64]⟩
abbrev S16x16x128x128 : Shape := ⟨4, ![16, 16, 128, 128]⟩
abbrev S_ : Shape := ⟨0, ![]⟩
abbrev S16x16x128 : Shape := ⟨3, ![16, 16, 128]⟩
abbrev S16x16x16 : Shape := ⟨3, ![16, 16, 16]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S1x16x16 : Shape := ⟨3, ![1, 16, 16]⟩
abbrev S16x16x128x16 : Shape := ⟨4, ![16, 16, 128, 16]⟩
abbrev S16x2048x16 : Shape := ⟨3, ![16, 2048, 16]⟩
abbrev S16x2048x16x128 : Shape := ⟨4, ![16, 2048, 16, 128]⟩
abbrev S16x2048x2048 : Shape := ⟨3, ![16, 2048, 2048]⟩
abbrev S2048 : Shape := ⟨1, ![2048]⟩
abbrev S2048x1 : Shape := ⟨2, ![2048, 1]⟩
abbrev S1x2048 : Shape := ⟨2, ![1, 2048]⟩
abbrev S16x2048 : Shape := ⟨2, ![16, 2048]⟩
abbrev S16x2048x1 : Shape := ⟨3, ![16, 2048, 1]⟩

abbrev nBuf : Space → Nat
  | .hbm => 132
  | .vmem => 0
  | .smem => 0
  | _ => 0

abbrev hbmTy0_0 (i : Nat) : BufTy := match i % 128 with
  | 0 => ⟨S1x2048x2048, .f32⟩
  | 1 => ⟨S1x2048x128, .f32⟩
  | 2 => ⟨S1x2048x128, .f32⟩
  | 3 => ⟨S2048x2048, .f32⟩
  | 4 => ⟨S2048x2048, .f32⟩
  | 5 => ⟨S2048x2048, .f32⟩
  | 6 => ⟨S2048x2048, .f32⟩
  | 7 => ⟨S2048x2048, .f32⟩
  | 8 => ⟨S2048x128, .f32⟩
  | 9 => ⟨S2048x128, .f32⟩
  | 10 => ⟨S2048x2048, .f32⟩
  | 11 => ⟨S2048x2048, .f32⟩
  | 12 => ⟨S2048x16x128, .f32⟩
  | 13 => ⟨S16x2048x128, .f32⟩
  | 14 => ⟨S2048x2048, .f32⟩
  | 15 => ⟨S2048x2048, .f32⟩
  | 16 => ⟨S2048x16x128, .f32⟩
  | 17 => ⟨S16x2048x128, .f32⟩
  | 18 => ⟨S2048x2048, .f32⟩
  | 19 => ⟨S2048x2048, .f32⟩
  | 20 => ⟨S2048x16x128, .f32⟩
  | 21 => ⟨S16x2048x128, .f32⟩
  | 22 => ⟨S1x2048x128, .f32⟩
  | 23 => ⟨S16x2048x128, .f32⟩
  | 24 => ⟨S16x2048x128, .f32⟩
  | 25 => ⟨S16x2048x64, .f32⟩
  | 26 => ⟨S16x2048x64, .f32⟩
  | 27 => ⟨S16x2048x64, .f32⟩
  | 28 => ⟨S16x2048x128, .f32⟩
  | 29 => ⟨S1x2048x128, .f32⟩
  | 30 => ⟨S16x2048x128, .f32⟩
  | 31 => ⟨S16x2048x128, .f32⟩
  | 32 => ⟨S16x2048x128, .f32⟩
  | 33 => ⟨S1x2048x128, .f32⟩
  | 34 => ⟨S16x2048x128, .f32⟩
  | 35 => ⟨S16x2048x128, .f32⟩
  | 36 => ⟨S16x2048x64, .f32⟩
  | 37 => ⟨S16x2048x64, .f32⟩
  | 38 => ⟨S16x2048x64, .f32⟩
  | 39 => ⟨S16x2048x128, .f32⟩
  | 40 => ⟨S1x2048x128, .f32⟩
  | 41 => ⟨S16x2048x128, .f32⟩
  | 42 => ⟨S16x2048x128, .f32⟩
  | 43 => ⟨S16x2048x128, .f32⟩
  | 44 => ⟨S16x16x128x128, .f32⟩
  | 45 => ⟨S_, .f32⟩
  | 46 => ⟨S16x16x128, .f32⟩
  | 47 => ⟨S_, .f32⟩
  | 48 => ⟨S16x16x128, .f32⟩
  | 49 => ⟨S16x16x128, .f32⟩
  | 50 => ⟨S16x16x128x128, .f32⟩
  | 51 => ⟨S_, .f32⟩
  | 52 => ⟨S16x16x128, .f32⟩
  | 53 => ⟨S_, .f32⟩
  | 54 => ⟨S16x16x128, .f32⟩
  | 55 => ⟨S16x16x128, .f32⟩
  | 56 => ⟨S16x16x16, .f32⟩
  | 57 => ⟨S_, .f32⟩
  | 58 => ⟨S_, .f32⟩
  | 59 => ⟨S_, .f32⟩
  | 60 => ⟨S16x16x16, .f32⟩
  | 61 => ⟨S16x16x16, .f32⟩
  | 62 => ⟨S16x16x16, .f32⟩
  | 63 => ⟨S16x16x16, .f32⟩
  | 64 => ⟨S_, .f32⟩
  | 65 => ⟨S16x16x16, .f32⟩
  | 66 => ⟨S16x16x16, .f32⟩
  | 67 => ⟨S_, .f32⟩
  | 68 => ⟨S16x16x16, .f32⟩
  | 69 => ⟨S16x16x16, .f32⟩
  | 70 => ⟨S16, .i32⟩
  | 71 => ⟨S_, .f32⟩
  | 72 => ⟨S16x16x16, .f32⟩
  | 73 => ⟨S16x16x16, .i1⟩
  | 74 => ⟨S16x1, .i32⟩
  | 75 => ⟨S1x16, .i32⟩
  | 76 => ⟨S16x16, .i32⟩
  | 77 => ⟨S16x16, .i32⟩
  | 78 => ⟨S16x16, .i1⟩
  | 79 => ⟨S1x16x16, .i1⟩
  | 80 => ⟨S16x16x16, .i1⟩
  | 81 => ⟨S16x16x16, .i1⟩
  | 82 => ⟨S16x1, .i32⟩
  | 83 => ⟨S1x16, .i32⟩
  | 84 => ⟨S16x16, .i32⟩
  | 85 => ⟨S16x16, .i32⟩
  | 86 => ⟨S16x16, .i1⟩
  | 87 => ⟨S1x16x16, .i1⟩
  | 88 => ⟨S16x16x16, .i1⟩
  | 89 => ⟨S16x16x16, .i1⟩
  | 90 => ⟨S16x16x128x16, .i1⟩
  | 91 => ⟨S16x2048x16, .i1⟩
  | 92 => ⟨S16x2048x16x128, .i1⟩
  | 93 => ⟨S16x2048x2048, .i1⟩
  | 94 => ⟨S2048, .i32⟩
  | 95 => ⟨S2048x1, .i32⟩
  | 96 => ⟨S1x2048, .i32⟩
  | 97 => ⟨S2048x2048, .i32⟩
  | 98 => ⟨S2048x2048, .i32⟩
  | 99 => ⟨S2048x2048, .i1⟩
  | 100 => ⟨S1x2048x2048, .i1⟩
  | 101 => ⟨S16x2048x2048, .i1⟩
  | 102 => ⟨S16x2048x2048, .i1⟩
  | 103 => ⟨S16x2048x2048, .f32⟩
  | 104 => ⟨S_, .f32⟩
  | 105 => ⟨S_, .f32⟩
  | 106 => ⟨S_, .f32⟩
  | 107 => ⟨S16x2048x2048, .f32⟩
  | 108 => ⟨S16x2048x2048, .f32⟩
  | 109 => ⟨S_, .f32⟩
  | 110 => ⟨S16x2048x2048, .f32⟩
  | 111 => ⟨S16x2048x2048, .f32⟩
  | 112 => ⟨S_, .f32⟩
  | 113 => ⟨S16x2048, .f32⟩
  | 114 => ⟨S_, .f32⟩
  | 115 => ⟨S16x2048, .f32⟩
  | 116 => ⟨S16x2048, .f32⟩
  | 117 => ⟨S16x2048x1, .f32⟩
  | 118 => ⟨S16x2048x2048, .f32⟩
  | 119 => ⟨S16x2048x2048, .f32⟩
  | 120 => ⟨S16x2048x2048, .f32⟩
  | 121 => ⟨S_, .f32⟩
  | 122 => ⟨S16x2048, .f32⟩
  | 123 => ⟨S16x2048x1, .f32⟩
  | 124 => ⟨S16x2048x2048, .f32⟩
  | 125 => ⟨S16x2048x2048, .f32⟩
  | 126 => ⟨S16x2048x128, .f32⟩
  | 127 => ⟨S2048x16x128, .f32⟩
  | _ => ⟨S1x2048x2048, .f32⟩

abbrev hbmTy0_1 (i : Nat) : BufTy := match i % 128 with
  | 0 => ⟨S2048x2048, .f32⟩
  | 1 => ⟨S2048x2048, .f32⟩
  | 2 => ⟨S2048x2048, .f32⟩
  | 3 => ⟨S1x2048x2048, .f32⟩
  | _ => ⟨S1x2048x2048, .f32⟩

abbrev hbmTy (i : Nat) : BufTy := match i / 128 with
  | 0 => hbmTy0_0 i
  | 1 => hbmTy0_1 i
  | _ => ⟨S1x2048x2048, .f32⟩

abbrev bufTy : (tb : Table) → Fin (tcTables nBuf tb) → BufTy
  | .hbm, ⟨i, _⟩ => hbmTy i
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst : Ref sig .tc := ⟨.hbm, 45, rfl⟩
abbrev main_v38 : Ref sig .tc := ⟨.hbm, 46, rfl⟩
abbrev main_cst_0 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_1 : Ref sig .tc := ⟨.hbm, 51, rfl⟩
abbrev main_v42 : Ref sig .tc := ⟨.hbm, 52, rfl⟩
abbrev main_cst_2 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_3 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_4 : Ref sig .tc := ⟨.hbm, 64, rfl⟩
abbrev main_v52 : Ref sig .tc := ⟨.hbm, 65, rfl⟩
abbrev main_v53 : Ref sig .tc := ⟨.hbm, 66, rfl⟩
abbrev main_cst_5 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_6 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_cst_7 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_cst_8 : Ref sig .tc := ⟨.hbm, 109, rfl⟩
abbrev main_v93 : Ref sig .tc := ⟨.hbm, 110, rfl⟩
abbrev main_v94 : Ref sig .tc := ⟨.hbm, 111, rfl⟩
abbrev main_cst_9 : Ref sig .tc := ⟨.hbm, 112, rfl⟩
abbrev main_v95 : Ref sig .tc := ⟨.hbm, 113, rfl⟩
abbrev main_cst_10 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_cst_11 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩

abbrev nD : Nat := 1
abbrev τ : Topo := Topo.v7x

variable {F : FTy → Type} [FloatOps F]
-- ==== Proof.Claims.lean ====
/-
  The claims that need no value: each of the three programs runs to its end from every memory, leaves its argument
  arrays as they were and every counter at zero (`frame_p`, `frame_pi`, `frame_ri`), with or without the precondition;
  and the four named constants of the idealized kernel are the printed constants' sanctioned readings (`preserves`).
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite_scores
public import Idealize.ShloMosaic.Lib.Quiescent

@[expose] public section

noncomputable section

namespace Cert.Proof

open Idealize.ShloMosaic Idealize.ShloMosaic.TcCoe Idealize.SL.Sem

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "scale_log2e" .f32 0x3E0293EE#32 (((Real.sqrt 128)⁻¹ * (Real.log 2)⁻¹ : ℝ) : EReal) rfl,
   IdealRules.named_const.statement Cert.KernelIdeal.κ "scale" .f32 0x3DB504F3#32 (((Real.sqrt 128)⁻¹ : ℝ) : EReal) rfl,
   IdealRules.named_const.statement Cert.KernelIdeal.κ "penalty" .f32 0x4E6E6B28#32 ⊤ rfl,
   IdealRules.named_const.statement Cert.KernelIdeal.κ "mask" .f32 0xCE6E6B28#32 ⊥ rfl⟩

end Cert.Proof

end
-- ==== Proof.Spec.lean ====
/-
  The mathematics of the layer on extended reals, written over plain matrices: the projection of rows on a weight's
  rows, the rotary embedding of a head's lanes, the block means, the hard gate, and gated causal attention by an
  unshifted softmax. The kernel's arrays and the reference's are both read as these.
-/
module

public import Idealize.ShloMosaic.PureOps.Ideal

@[expose] public section

noncomputable section

namespace Cert.Attn

open Idealize.ShloMosaic

/-- A matrix of extended reals. -/
abbrev Mat (a b : ℕ) := Fin a → Fin b → EReal

/-- Column `e` of head `h` among the 2048 columns. -/
def col (h : Fin 16) (e : Fin 128) : Fin 2048 := ⟨h.val * 128 + e.val, by omega⟩
/-- The head a column belongs to; also the block a row belongs to. -/
def head (j : Fin 2048) : Fin 16 := ⟨j.val / 128, by omega⟩
/-- The lane a column has in its head. -/
def lane (j : Fin 2048) : Fin 128 := ⟨j.val % 128, Nat.mod_lt _ (by decide)⟩
/-- The lane half a head away. -/
def half (e : Fin 128) : Fin 128 := ⟨(e.val + 64) % 128, Nat.mod_lt _ (by decide)⟩

theorem col_head_lane (j : Fin 2048) : col (head j) (lane j) = j :=
  Fin.ext (by simp only [col, head, lane]; omega)
theorem head_col (h : Fin 16) (e : Fin 128) : head (col h e) = h :=
  Fin.ext (by simp only [col, head]; omega)
theorem lane_col (h : Fin 16) (e : Fin 128) : lane (col h e) = e :=
  Fin.ext (by simp only [col, lane]; omega)

/-- Rows of `x` against rows of `w`. -/
def proj {n : ℕ} (x : Mat n 2048) (w : Mat 2048 2048) : Mat n 2048 := fun i j => ∑ k : Fin 2048, x i k * w j k

/-- The rotary embedding: each lane times its cosine, plus the lane half a head away (negated in the first half)
    times its sine. -/
def rope {n : ℕ} (t : Mat n 2048) (c s : Mat n 128) : Mat n 2048 := fun i j =>
  t i j * c i (lane j)
    + (if (lane j).val < 64 then -(t i (col (head j) (half (lane j)))) else t i (col (head j) (half (lane j)))) * s i (lane j)

/-- The mean of each block of 128 rows. -/
def pool (t : Mat 2048 2048) : Mat 16 2048 := fun b j => Ideal.div (∑ r : Fin 128, t (col b r) j) ((128 : ℝ) : EReal)

/-- A block's score against another, for one head: the product of their means over the head's lanes, scaled. -/
def score (qp kp : Mat 16 2048) (h b q : Fin 16) : EReal :=
  (∑ e : Fin 128, qp b (col h e) * kp q (col h e)) * (((Real.sqrt 128)⁻¹ : ℝ) : EReal)

/-- The hard gate: an earlier block is kept when the logistic of its score is at least a half; a block keeps itself. -/
def Gate (qp kp : Mat 16 2048) (h b q : Fin 16) : Prop :=
  (((1 / 2 : ℝ) : EReal) ≤ Ideal.logistic (score qp kp h b q) ∧ q ≤ b) ∨ q = b

/-- The unshifted softmax weight of key `c` for query row `i`: the exponential in base two of the scaled score plus the
    penalty, nothing above the diagonal. -/
def weight (q k : Mat 2048 2048) (pen : Fin 16 → Mat 16 2048) (h : Fin 16) (i c : Fin 2048) : EReal :=
  Ideal.exp2 (if c ≤ i then (∑ e : Fin 128, q i (col h e) * k c (col h e)) + pen h (head i) c else ⊥)

/-- The attention result: the weighted values over the weights' sum, the column's head giving the head. -/
def attn (q k v : Mat 2048 2048) (pen : Fin 16 → Mat 16 2048) (i j : Fin 2048) : EReal :=
  Ideal.div (∑ c : Fin 2048, weight q k pen (head j) i c * v c j) (∑ c : Fin 2048, weight q k pen (head j) i c)

/-- The rows of the first half, and of the second, among all 2048. -/
def low (i : Fin 1024) : Fin 2048 := ⟨i.val, by omega⟩
def high (i : Fin 1024) : Fin 2048 := ⟨1024 + i.val, by omega⟩

/-- A key after the query has no weight. -/
theorem weight_future (q k : Mat 2048 2048) (pen : Fin 16 → Mat 16 2048) (h : Fin 16) (i c : Fin 2048) (hc : i < c) :
    weight q k pen h i c = 0 := by
  unfold weight
  rw [if_neg (not_le.mpr hc)]
  rfl

/-- A sum whose terms vanish in the second half is the first half's. -/
theorem sum_low (f : Fin 2048 → EReal) (hf : ∀ c : Fin 1024, f (high c) = 0) : ∑ c : Fin 2048, f c = ∑ c : Fin 1024, f (low c) := by
  have e : ∑ c : Fin 2048, f c = ∑ c : Fin 1024, f (low c) + ∑ c : Fin 1024, f (high c) := Fin.sum_univ_add (a := 1024) (b := 1024) f
  rw [e, Finset.sum_eq_zero fun c _ => hf c, add_zero]

/-- For a row of the first half, the keys of the first half are all that count. -/
theorem attn_low (q k v : Mat 2048 2048) (pen : Fin 16 → Mat 16 2048) (i : Fin 1024) (j : Fin 2048) :
    attn q k v pen (low i) j
      = Ideal.div (∑ c : Fin 1024, weight q k pen (head j) (low i) (low c) * v (low c) j) (∑ c : Fin 1024, weight q k pen (head j) (low i) (low c)) := by
  have h : ∀ c : Fin 1024, weight q k pen (head j) (low i) (high c) = 0 := fun c =>
    weight_future q k pen _ _ _ (Fin.lt_def.mpr (by simp only [low, high]; omega))
  unfold attn
  rw [sum_low _ h, sum_low _ fun c => by rw [h c, zero_mul]]

end Cert.Attn

end
-- ==== Proof.Rope.lean ====
/-
  The first kernel's rotary stage on one tile of 256 rows: the sixteen heads' embeddings laid side by side are `rope`
  of the tile. The body applies the same stage to the query and to the key projection.
-/
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Tile

open Idealize.ShloMosaic Cert.KernelIdeal Cert.KernelIdeal.Gen Cert.Attn

theorem slices_head : ∀ n : Fin 16, S256x2048.Slices ![0, 128 * n.val] S256x128 := by decide

/-- One head of the rotary stage, as the body computes it. -/
def ropeHead (t : FVec Ideal S256x2048 .f32) (c s : FVec Ideal S256x128 .f32) (n : Fin 16) : FVec Ideal S256x128 .f32 :=
  have th : FVec Ideal S256x128 .f32 := extractStridedSlice S256x128 ![0, 128 * n.val] t (slices_head n)
  have lo : FVec Ideal S256x64 .f32 := subf (broadcast S256x64 (Scalar.ofBits .f32 0x00000000#32)) (extractStridedSlice S256x64 ![0, 64] th slices_S256x128_o0_64_S256x64)
  have hi : FVec Ideal S256x64 .f32 := extractStridedSlice S256x64 ![0, 0] th slices_S256x128_o0_0_S256x64
  addf (mulf th c) (mulf (concatenate S256x128 1 [⟨S256x64, lo⟩, ⟨S256x64, hi⟩] concatenates_S256x64_S256x64_S256x128_d1) s)

/-- The sixteen heads side by side. -/
def ropeTile (t : FVec Ideal S256x2048 .f32) (c s : FVec Ideal S256x128 .f32) : FVec Ideal S256x2048 .f32 :=
  concatenate S256x2048 1 (List.ofFn fun n : Fin 16 => (⟨S256x128, ropeHead t c s n⟩ : (s : Shape) × (s.Idx → Ideal .f32)))
    concatenates_S256x128_S256x128_S256x128_S256x128_S256x128_S256x128_S256x128_S256x128_S256x128_S256x128_S256x128_S256x128_S256x128_S256x128_S256x128_S256x128_S256x2048_d1

/-- A head of the stage at an index. -/
theorem ropeHead_apply (t : FVec Ideal S256x2048 .f32) (c s : FVec Ideal S256x128 .f32) (n : Fin 16) (r : Fin 256) (e : Fin 128) :
    ropeHead t c s n (ix2 r e) = rope (fun i j => t (ix2 i j)) (fun i j => c (ix2 i j)) (fun i j => s (ix2 i j)) r (col n e) := by
  unfold rope
  rw [lane_col, head_col]
  pointwise [ropeHead]
  have h0 : (⟨128 * n.val + e.val, by omega⟩ : Fin 2048) = col n e := Fin.ext (by simp only [col]; omega)
  rw [h0]
  split
  · have h1 : (⟨128 * n.val + (64 + e.val), by omega⟩ : Fin 2048) = col n (half e) := Fin.ext (by simp only [col, half]; omega)
    rw [h1, zero_sub]
  · have h1 : (⟨128 * n.val + (e.val - 64), by omega⟩ : Fin 2048) = col n (half e) := Fin.ext (by simp only [col, half]; omega)
    rw [h1]

/-- The stage at an index is `rope` of the tile. -/
theorem ropeTile_apply (t : FVec Ideal S256x2048 .f32) (c s : FVec Ideal S256x128 .f32) (r : Fin 256) (j : Fin 2048) :
    ropeTile t c s (ix2 r j) = rope (fun i j => t (ix2 i j)) (fun i j => c (ix2 i j)) (fun i j => s (ix2 i j)) r j := by
  unfold ropeTile
  refine (concatenate_ofFn_apply (t := S256x2048) (s₁ := S256x128) 1 (fun n : Fin 16 => ropeHead t c s n) _ rfl 128 rfl (ix2 r j) (head j) rfl
    (ix2 r (lane j)) rfl (fun b hb => by match b with
      | ⟨0, _⟩ => rfl
      | ⟨1, _⟩ => exact absurd rfl hb)).trans ?_
  rw [ropeHead_apply, col_head_lane]

/-- The body's rotated query projection, before its scale. -/
theorem query_eq (x0 : Vec Ideal S256x2048 .f32) (x1 x2 : Vec Ideal S2048x2048 .f32) (x3 : Vec Ideal S2048x2048 .bf16) (x4 x5 : Vec Ideal S256x128 .f32) :
    k0_pay51 x0 x1 x2 x3 x4 x5 = ropeTile (k0_pay47 x0 x1 x2 x3 x4 x5) (k0_pay49 x0 x1 x2 x3 x4 x5) (k0_pay50 x0 x1 x2 x3 x4 x5) := rfl

/-- The body's rotated key projection. -/
theorem key_eq (x0 : Vec Ideal S256x2048 .f32) (x1 x2 : Vec Ideal S2048x2048 .f32) (x3 : Vec Ideal S2048x2048 .bf16) (x4 x5 : Vec Ideal S256x128 .f32) :
    k0_pay52 x0 x1 x2 x3 x4 x5 = ropeTile (k0_pay48 x0 x1 x2 x3 x4 x5) (k0_pay49 x0 x1 x2 x3 x4 x5) (k0_pay50 x0 x1 x2 x3 x4 x5) := rfl

theorem query_apply (x0 : Vec Ideal S256x2048 .f32) (x1 x2 : Vec Ideal S2048x2048 .f32) (x3 : Vec Ideal S2048x2048 .bf16) (x4 x5 : Vec Ideal S256x128 .f32) (r : Fin 256) (j : Fin 2048) :
    k0_pay51 x0 x1 x2 x3 x4 x5 (ix2 r j) = rope (proj (fun i k => x0 (ix2 i k)) (fun i k => x1 (ix2 i k))) (fun i j => x4 (ix2 i j)) (fun i j => x5 (ix2 i j)) r j := by
  rw [query_eq, ropeTile_apply]
  congr 1
  · funext i j
    pointwise [k0_pay47, k0_pay7, k0_pay6, proj]
  · funext i j
    pointwise [k0_pay49, k0_pay10]
  · funext i j
    pointwise [k0_pay50, k0_pay11]

theorem key_apply (x0 : Vec Ideal S256x2048 .f32) (x1 x2 : Vec Ideal S2048x2048 .f32) (x3 : Vec Ideal S2048x2048 .bf16) (x4 x5 : Vec Ideal S256x128 .f32) (r : Fin 256) (j : Fin 2048) :
    k0_pay52 x0 x1 x2 x3 x4 x5 (ix2 r j) = rope (proj (fun i k => x0 (ix2 i k)) (fun i k => x2 (ix2 i k))) (fun i j => x4 (ix2 i j)) (fun i j => x5 (ix2 i j)) r j := by
  rw [key_eq, ropeTile_apply]
  congr 1
  · funext i j
    pointwise [k0_pay48, k0_pay8, k0_pay6, proj]
  · funext i j
    pointwise [k0_pay49, k0_pay10]
  · funext i j
    pointwise [k0_pay50, k0_pay11]

end Cert.KernelIdeal.Tile

end
-- ==== Proof.Consts.lean ====
/-
  The constants of the two programs as extended reals: the words that are literals, and the values of the names.
-/
module

public import proofs.«01_k».proof.Defs
public import Idealize.ShloMosaic.Lib.IdealHost

@[expose] public section

noncomputable section

namespace Cert.Attn

open Idealize.ShloMosaic

theorem word_128 : Ideal.ofBits .f32 0x43000000#32 = ((128 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_bot : Ideal.ofBits .f32 0xFF800000#32 = ⊥ := by
  simp [Ideal.ofBits, Ideal.ieee]

theorem kernel_scale_log2e :
    (Named.named Cert.KernelIdeal.κ "scale_log2e" (φ := .f32) 1040356334#32 : Ideal .f32) = (((Real.sqrt 128)⁻¹ * (Real.log 2)⁻¹ : ℝ) : EReal) := rfl
theorem kernel_scale : (Named.named Cert.KernelIdeal.κ "scale" (φ := .f32) 0x3DB504F3#32 : Ideal .f32) = (((Real.sqrt 128)⁻¹ : ℝ) : EReal) := rfl
theorem kernel_penalty : (Named.named Cert.KernelIdeal.κ "penalty" (φ := .f32) 0x4E6E6B28#32 : Ideal .f32) = (⊤ : EReal) := rfl
theorem kernel_mask : (Named.named Cert.KernelIdeal.κ "mask" (φ := .f32) 0xCE6E6B28#32 : Ideal .f32) = (⊥ : EReal) := rfl

end Cert.Attn

end
-- ==== Proof.QkvArrays.lean ====
/-
  The first kernel's five result arrays after its grid of eight tiles, as the mathematics of its whole arrays.
-/
module

public import proofs.«01_k».proof.Proof.Rope
public import proofs.«01_k».proof.Proof.Consts

@[expose] public section

set_option maxRecDepth 16384

noncomputable section

namespace Cert.KernelIdeal.Tile

open Idealize.ShloMosaic Idealize.ShloMosaic.TcCoe Idealize.SL.Sem Cert.KernelIdeal Cert.KernelIdeal.Gen Cert.Attn
open Idealize.ShloMosaic.Pipeline (Dat)

variable (V : (c : Dev nD) → (b : Ref sig .tc) → Buf (Elt Ideal) ((c : Thread nD τ).loc b))

theorem idx0 : ∀ t : Fin cfg0.N, t.val < 8 ∧ win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0, 0] ∧ win0_10.index t = ![t.val, 0, 0] :=
  (by decide +kernel : ∀ t : Fin grid0.N, _)

/-- The array row at row `i` of tile `t`. -/
def tileRow (t : Fin cfg0.N) (i : Fin 256) : Fin 2048 := ⟨t.val * 256 + i.val, by have := (idx0 t).1; omega⟩

/-- The block of rows at block `b` of tile `t`. -/
def tileBlock (t : Fin cfg0.N) (b : Fin 2) : Fin 16 := ⟨t.val * 2 + b.val, by have := (idx0 t).1; omega⟩

/-- A tile's two block means, one per half of its rows. -/
theorem pool_tile (q : Mat 2048 2048) (t : Fin cfg0.N) (b : Fin 2) (j : Fin 2048) :
    (if h : b.val < 1 then Ideal.div (∑ x : Fin 128, q (tileRow t ⟨x.val, by omega⟩) j) (Ideal.ofBits FTy.f32 1124073472#32)
      else Ideal.div (∑ x : Fin 128, q (tileRow t ⟨128 + x.val, by omega⟩) j) (Ideal.ofBits FTy.f32 1124073472#32))
      = Attn.pool q (tileBlock t b) j := by
  rw [word_128]
  unfold Attn.pool
  split
  all_goals
    refine congrArg (Ideal.div · _) (Finset.sum_congr rfl fun x _ => congrArg (q · j) (Fin.ext ?_))
    simp only [tileRow, tileBlock, col]
    omega

theorem blk_x (c : Dev nD) (t : Fin cfg0.N) (i : Fin 256) (k : Fin 2048) :
    (iblk0 V c 0 t : FVec Ideal S256x2048 .f32) (ix2 i k) = (V c main_v0 : FVec Ideal S2048x2048 .f32) (ix2 (tileRow t i) k) := by
  blk_ext [iblk0, idx0 t, tileRow]
theorem blk_wq (c : Dev nD) (t : Fin cfg0.N) (i k : Fin 2048) :
    (iblk0 V c 1 t : FVec Ideal S2048x2048 .f32) (ix2 i k) = (V c main_arg3 : FVec Ideal S2048x2048 .f32) (ix2 i k) := by
  blk_ext [iblk0, idx0 t]
theorem blk_wk (c : Dev nD) (t : Fin cfg0.N) (i k : Fin 2048) :
    (iblk0 V c 2 t : FVec Ideal S2048x2048 .f32) (ix2 i k) = (V c main_arg4 : FVec Ideal S2048x2048 .f32) (ix2 i k) := by
  blk_ext [iblk0, idx0 t]
theorem blk_cos (c : Dev nD) (t : Fin cfg0.N) (i : Fin 256) (e : Fin 128) :
    (iblk0 V c 4 t : FVec Ideal S256x128 .f32) (ix2 i e) = (V c main_v1 : FVec Ideal S2048x128 .f32) (ix2 (tileRow t i) e) := by
  blk_ext [iblk0, idx0 t, tileRow]
theorem blk_sin (c : Dev nD) (t : Fin cfg0.N) (i : Fin 256) (e : Fin 128) :
    (iblk0 V c 5 t : FVec Ideal S256x128 .f32) (ix2 i e) = (V c main_v2 : FVec Ideal S2048x128 .f32) (ix2 (tileRow t i) e) := by
  blk_ext [iblk0, idx0 t, tileRow]

/-- The rotated query of the entry arrays, before its scale. -/
def query (c : Dev nD) : Mat 2048 2048 :=
  rope (proj (fun a b => (V c main_v0 : FVec Ideal S2048x2048 .f32) (ix2 a b)) (fun a b => (V c main_arg3 : FVec Ideal S2048x2048 .f32) (ix2 a b)))
    (fun a b => (V c main_v1 : FVec Ideal S2048x128 .f32) (ix2 a b)) (fun a b => (V c main_v2 : FVec Ideal S2048x128 .f32) (ix2 a b))
/-- The rotated key of the entry arrays. -/
def key (c : Dev nD) : Mat 2048 2048 :=
  rope (proj (fun a b => (V c main_v0 : FVec Ideal S2048x2048 .f32) (ix2 a b)) (fun a b => (V c main_arg4 : FVec Ideal S2048x2048 .f32) (ix2 a b)))
    (fun a b => (V c main_v1 : FVec Ideal S2048x128 .f32) (ix2 a b)) (fun a b => (V c main_v2 : FVec Ideal S2048x128 .f32) (ix2 a b))
/-- The value projection of the entry arrays. -/
def value (c : Dev nD) : Mat 2048 2048 :=
  proj (fun a b => (V c main_v0 : FVec Ideal S2048x2048 .f32) (ix2 a b)) (fun a b => (V c main_v3 : FVec Ideal S2048x2048 .bf16) (ix2 a b))

/-- The body's rotated query at row `r` of tile `t`. -/
theorem query_tile (c : Dev nD) (t : Fin cfg0.N) (r : Fin 256) (j : Fin 2048) :
    k0_pay51 (iblk0 V c 0 t) (iblk0 V c 1 t) (iblk0 V c 2 t) (iblk0 V c 3 t) (iblk0 V c 4 t) (iblk0 V c 5 t) (ix2 r j) = query V c (tileRow t r) j := by
  rw [query_apply]
  simp only [blk_x, blk_wq, blk_cos, blk_sin]
  rfl
/-- The body's rotated key at row `r` of tile `t`. -/
theorem key_tile (c : Dev nD) (t : Fin cfg0.N) (r : Fin 256) (j : Fin 2048) :
    k0_pay52 (iblk0 V c 0 t) (iblk0 V c 1 t) (iblk0 V c 2 t) (iblk0 V c 3 t) (iblk0 V c 4 t) (iblk0 V c 5 t) (ix2 r j) = key V c (tileRow t r) j := by
  rw [key_apply]
  simp only [blk_x, blk_wk, blk_cos, blk_sin]
  rfl

/-- The scaled query's array. -/
theorem query_final (c : Dev nD) : (dat0 V c).arrAt 6 cfg0.N
    = fun i : S2048x2048.Idx => query V c (i 0) (i 1) * (((Real.sqrt 128)⁻¹ * (Real.log 2)⁻¹ : ℝ) : EReal) := by
  refine (dat0 V c).arrAt_eq_of_covers 6 _ (by decide +kernel) fun t hf y => ?_
  blk_simp
  rw [after0_6]
  frame_out
  idx_vars y
  have e : (((View.whole main_v4_0).slice (win0_6.rect t)).emb (ix2 y0 y1) : S2048x2048.Idx) = ix2 (tileRow t y0) y1 := by
    blk_ext [idx0 t, tileRow]
  rw [e]
  pointwise [k0_pay3]
  rw [query_tile, kernel_scale_log2e]

/-- The rotated key projection's array. -/
theorem key_final (c : Dev nD) : (dat0 V c).arrAt 7 cfg0.N = fun i : S2048x2048.Idx => key V c (i 0) (i 1) := by
  refine (dat0 V c).arrAt_eq_of_covers 7 _ (by decide +kernel) fun t hf y => ?_
  blk_simp
  rw [after0_7]
  frame_out
  idx_vars y
  have e : (((View.whole main_v4_1).slice (win0_7.rect t)).emb (ix2 y0 y1) : S2048x2048.Idx) = ix2 (tileRow t y0) y1 := by
    blk_ext [idx0 t, tileRow]
  rw [e]
  pointwise [k0_pay4]
  exact key_tile V c t y0 y1

/-- The value projection's array. -/
theorem value_final (c : Dev nD) : (dat0 V c).arrAt 8 cfg0.N = fun i : S2048x2048.Idx => value V c (i 0) (i 1) := by
  refine (dat0 V c).arrAt_eq_of_covers 8 _ (by decide +kernel) fun t hf y => ?_
  blk_simp
  rw [after0_8]
  frame_out
  pointwise [k0_pay5, k0_pay9, k0_pay6, value, proj]
  blk_point [iblk0, idx0 t]

/-- The array of the query's block means. -/
theorem qpool_final (c : Dev nD) : (dat0 V c).arrAt 9 cfg0.N = fun i : S16x1x2048.Idx => Attn.pool (query V c) (i 0) (i 2) := by
  refine (dat0 V c).arrAt_eq_of_covers 9 _ (by decide +kernel) fun t hf y => ?_
  blk_simp
  rw [after0_9]
  frame_out
  idx_vars y
  pointwise [k0_pay1, k0_pay45, k0_pay46]
  simp only [query_tile]
  have e : (((View.whole main_v4_3).slice (win0_9.rect t)).emb (ix3 y0 y1 y2) : S16x1x2048.Idx) = ix3 (tileBlock t y0) y1 y2 := by
    blk_ext [idx0 t, tileBlock]
  rw [e]
  exact pool_tile (query V c) t y0 y2

/-- The array of the key's block means. -/
theorem kpool_final (c : Dev nD) : (dat0 V c).arrAt 10 cfg0.N = fun i : S16x1x2048.Idx => Attn.pool (key V c) (i 0) (i 2) := by
  refine (dat0 V c).arrAt_eq_of_covers 10 _ (by decide +kernel) fun t hf y => ?_
  blk_simp
  rw [after0_10]
  frame_out
  idx_vars y
  pointwise [k0_pay2]
  simp only [key_tile]
  have e : (((View.whole main_v4_4).slice (win0_10.rect t)).emb (ix3 y0 y1 y2) : S16x1x2048.Idx) = ix3 (tileBlock t y0) y1 y2 := by
    blk_ext [idx0 t, tileBlock]
  rw [e]
  exact pool_tile (key V c) t y0 y2

end Cert.KernelIdeal.Tile

end
-- ==== Proof.GateArray.lean ====
/-
  The second kernel's result array: each head's and block's penalty on every key, infinite where the gate drops the
  key's block.
-/
module

public import proofs.«01_k».proof.Proof.Spec
public import proofs.«01_k».proof.Proof.Consts
public import proofs.«01_k».proof.Proof.Gen.KernelIdeal.Frame
public import Idealize.ShloMosaic.Lib.Pipeline.ValueKit

@[expose] public section

set_option maxRecDepth 16384

noncomputable section

namespace Cert.KernelIdeal.Gate

open Idealize.ShloMosaic Idealize.ShloMosaic.TcCoe Idealize.SL.Sem Cert.KernelIdeal Cert.KernelIdeal.Gen Cert.Attn
open Idealize.ShloMosaic.Pipeline (Dat)

/-- The gate's bit for two blocks, as a real: one when kept, else zero. -/
theorem gate_bit (s : EReal) (b q : Fin 16) :
    FloatOps.sitofp (F := Ideal) .f32 (BitVec.setWidth 32 (IntOp.ori (IntOp.andi (BitVec.ofBool (decide (Ideal.ofBits .f32 0x3F000000#32 ≤ Ideal.logistic s)))
        (IntOp.cmpi .sle (BitVec.ofNat 32 q.val) (BitVec.ofNat 32 b.val))) (IntOp.cmpi .eq (BitVec.ofNat 32 q.val) (BitVec.ofNat 32 b.val))))
      = (if (((1 / 2 : ℝ) : EReal) ≤ Ideal.logistic s ∧ q ≤ b) ∨ q = b then 1 else 0 : EReal) := by
  rw [word_half]
  have h1 : ∀ b q : Fin 16, IntOp.cmpi .sle (BitVec.ofNat 32 q.val) (BitVec.ofNat 32 b.val) = BitVec.ofBool (decide (q ≤ b)) := by decide
  have h2 : ∀ b q : Fin 16, IntOp.cmpi .eq (BitVec.ofNat 32 q.val) (BitVec.ofNat 32 b.val) = BitVec.ofBool (decide (q = b)) := by decide
  rw [h1, h2]
  have one : FloatOps.sitofp (F := Ideal) .f32 1#32 = (1 : EReal) := by
    show ((((1#32 : BitVec 32).toInt : ℝ)) : EReal) = 1
    norm_num
  have zero : FloatOps.sitofp (F := Ideal) .f32 0#32 = (0 : EReal) := by
    show ((((0#32 : BitVec 32).toInt : ℝ)) : EReal) = 0
    norm_num
  by_cases p1 : ((1 / 2 : ℝ) : EReal) ≤ Ideal.logistic s <;> by_cases p2 : q ≤ b <;> by_cases p3 : q = b <;>
    simp only [p1, p2, p3, and_true, and_false, or_true, or_false, if_true, if_false, true_and, false_and, le_refl, decide_true, decide_false] <;>
    first | exact one | exact zero

/-- A kept block's penalty is nothing, a dropped one's is infinite. -/
theorem penalty_term (P : Prop) [Decidable P] (x : EReal) : ((if P then 1 else 0 : EReal) - 1) * ⊤ * x = (if P then 0 else ⊥) * x := by
  split
  · rw [show (1 : EReal) - 1 = 0 from by rw [← EReal.coe_one, ← EReal.coe_sub]; norm_num, zero_mul]
  · rw [zero_sub, EReal.neg_mul, one_mul, EReal.neg_top]

/-- The body's result at an index: the gate's penalties spread over the keys by the third operand. -/
theorem k1_apply (x0 x1 : FVec Ideal S16x1x128 .f32) (x2 : FVec Ideal S16x2048 .f32) (b : Fin 16) (j : Fin 2048) :
    k1_pay1 (F := Ideal) x0 x1 x2 (ix3 0 b j)
      = ∑ q : Fin 16, (if (((1 / 2 : ℝ) : EReal) ≤ Ideal.logistic ((∑ e : Fin 128, x0 (ix3 b 0 e) * x1 (ix3 q 0 e)) * (((Real.sqrt 128)⁻¹ : ℝ) : EReal)) ∧ q ≤ b) ∨ q = b
          then 0 else ⊥ : EReal) * x2 (ix2 q j) := by
  pointwise [k1_pay1]
  refine Finset.sum_congr rfl fun q _ => ?_
  rw [gate_bit, kernel_penalty, kernel_scale]
  exact penalty_term _ _

variable (V : (c : Dev nD) → (b : Ref sig .tc) → Buf (Elt Ideal) ((c : Thread nD τ).loc b))

theorem idx1 : ∀ t : Fin cfg1.N, t.val < 16 ∧ win1_0.index t = ![0, 0, t.val] ∧ win1_1.index t = ![0, 0, t.val] ∧ win1_2.index t = ![0, 0]
    ∧ win1_3.index t = ![t.val, 0, 0] :=
  (by decide +kernel : ∀ t : Fin grid1.N, _)

/-- The head a grid point treats. -/
def headOf (t : Fin cfg1.N) : Fin 16 := ⟨t.val, (idx1 t).1⟩

theorem blk_qp (c : Dev nD) (t : Fin cfg1.N) (b : Fin 16) (e : Fin 128) :
    (iblk1 V c 0 t : FVec Ideal S16x1x128 .f32) (ix3 b 0 e) = (V c main_v4_3 : FVec Ideal S16x1x2048 .f32) (ix3 b 0 (col (headOf t) e)) := by
  blk_ext [iblk1, idx1 t, col, headOf]
theorem blk_kp (c : Dev nD) (t : Fin cfg1.N) (b : Fin 16) (e : Fin 128) :
    (iblk1 V c 1 t : FVec Ideal S16x1x128 .f32) (ix3 b 0 e) = (V c main_v4_4 : FVec Ideal S16x1x2048 .f32) (ix3 b 0 (col (headOf t) e)) := by
  blk_ext [iblk1, idx1 t, col, headOf]
theorem blk_e (c : Dev nD) (t : Fin cfg1.N) (q : Fin 16) (j : Fin 2048) :
    (iblk1 V c 2 t : FVec Ideal S16x2048 .f32) (ix2 q j) = (V c main_cst : FVec Ideal S16x2048 .f32) (ix2 q j) := by
  blk_ext [iblk1, idx1 t]

open scoped Classical in
/-- The array of penalties: a spread over the keys by the constant operand. -/
theorem gate_final (c : Dev nD) : (dat1 V c).arrAt 3 cfg1.N = fun i : S16x16x2048.Idx =>
    ∑ q : Fin 16, (if Gate (fun a b => (V c main_v4_3 : FVec Ideal S16x1x2048 .f32) (ix3 a 0 b)) (fun a b => (V c main_v4_4 : FVec Ideal S16x1x2048 .f32) (ix3 a 0 b)) (i 0) (i 1) q
      then 0 else ⊥ : EReal) * (V c main_cst : FVec Ideal S16x2048 .f32) (ix2 q (i 2)) := by
  refine (dat1 V c).arrAt_eq_of_covers 3 _ (by decide +kernel) fun t hf y => ?_
  blk_simp
  rw [after1_3]
  idx_vars y
  have e : (((View.whole main_v5).slice (win1_3.rect t)).emb (ix3 y0 y1 y2) : S16x16x2048.Idx) = ix3 (headOf t) y1 y2 := by
    blk_ext [idx1 t, headOf]
  rw [e]
  refine (?_ : _ = k1_pay1 (F := Ideal) (iblk1 V c 0 t) (iblk1 V c 1 t) (iblk1 V c 2 t) (ix3 0 y1 y2)).trans ?_
  · obtain rfl : y0 = 0 := Subsingleton.elim _ _
    frame_out
  rw [k1_apply]
  simp only [blk_qp, blk_kp, blk_e]
  refine Finset.sum_congr rfl fun q _ => congrArg (· * _) (if_congr Iff.rfl rfl rfl)

end Cert.KernelIdeal.Gate

end
-- ==== Proof.Spread.lean ====
/-
  The second kernel's constant operand: row `q` is one on the keys of block `q` and zero elsewhere.
-/
module

public import proofs.«01_k».proof.Proof.Spec
public import proofs.«01_k».proof.Proof.Consts
public import Idealize.ShloMosaic.Lib.Pointwise

@[expose] public section

set_option maxRecDepth 65536

noncomputable section

namespace Cert.KernelIdeal.Gate

open Idealize.ShloMosaic Cert.KernelIdeal Cert.Attn

/-- The first table of the literal is all ones, the second all zeros. -/
theorem table_ones : ∀ r : Fin 128, lit0t0_0 r.val = 0x3F800000#32 := by decide +kernel
theorem table_zeros : ∀ r : Fin 128, lit0t0_1 r.val = 0x00000000#32 := by decide +kernel

/-- Each of the 256 tables is the first or the second. -/
theorem table_eq (i n : ℕ) (hn : n < 256) (h0 : i / 16384 = n / 128) (h1 : i / 128 % 128 = n % 128) :
    lit0t i = if n / 16 = n % 16 then lit0t0_0 i else lit0t0_1 i := by
  unfold lit0t lit0t1_0 lit0t1_1
  rw [h0, h1]
  interval_cases n
  all_goals rfl

/-- A word of the literal. -/
theorem word_eq (i : ℕ) (hi : i < 32768) : lit0t i = if i / 128 / 16 = i / 128 % 16 then 0x3F800000#32 else 0x00000000#32 := by
  have e0 : lit0t0_0 i = lit0t0_0 (i % 128) := by unfold lit0t0_0; rw [Nat.mod_mod]
  have e1 : lit0t0_1 i = lit0t0_1 (i % 128) := by unfold lit0t0_1; rw [Nat.mod_mod]
  rw [table_eq i (i / 128) (by omega) (by omega) rfl, e0, e1]
  exact if_congr Iff.rfl (table_ones ⟨i % 128, by omega⟩) (table_zeros ⟨i % 128, by omega⟩)

/-- The operand at an index. -/
theorem spread_apply (q : Fin 16) (j : Fin 2048) :
    (FloatOps.ofBits .f32 (lit0 (S16x2048.rowMajor (ix2 q j))) : Ideal .f32) = (if q = head j then 1 else 0 : EReal) := by
  have e : (S16x2048.rowMajor (ix2 q j)).val = q.val * 2048 + j.val := rowMajor_val2 _ 2048 rfl
  show Ideal.ofBits .f32 (lit0t (S16x2048.rowMajor (ix2 q j)).val) = _
  rw [e, word_eq _ (by omega)]
  by_cases h : q = head j
  · rw [if_pos h, if_pos (by rw [Fin.ext_iff] at h; simp only [head] at h; omega), Ideal.ofBits_one_f32]
  · rw [if_neg h, if_neg (by rw [Fin.ext_iff] at h; simp only [head] at h; omega), Ideal.ofBits_zero_f32]

end Cert.KernelIdeal.Gate

end
-- ==== Proof.AttnLow.lean ====
/-
  The third kernel's result array: the first 1024 query rows' attention, every row over the first 1024 keys. The body
  treats its rows in eight groups of 128; each group is read at an index once, for all groups.
-/
module

public import proofs.«01_k».proof.Proof.Spec
public import proofs.«01_k».proof.Proof.Consts
public import proofs.«01_k».proof.Proof.Gen.KernelIdeal.Frame
public import Idealize.ShloMosaic.Lib.Pipeline.ValueKit

@[expose] public section

set_option maxRecDepth 16384

noncomputable section

namespace Cert.KernelIdeal.Low

open Idealize.ShloMosaic Idealize.ShloMosaic.TcCoe Idealize.SL.Sem Cert.KernelIdeal Cert.KernelIdeal.Gen Cert.Attn
open Idealize.ShloMosaic.Pipeline (Dat)

theorem slices_group : ∀ g : Fin 8, S1024x1024.Slices ![128 * g.val, 0] S128x1024 := by decide
theorem inb_group : ∀ g : Fin 8, ∀ a, (![0, 0, g.val, 0] : Fin 4 → Nat) a + S1x1x1x1024.size a ≤ S1x1x8x2048.size a := by decide

/-- The softmax weights of one group of 128 rows, as the body computes them. -/
def groupTile (x0 x1 : Vec Ideal S1024x128 .bf16) (x3 : Vec Ideal S1x1x8x2048 .f32) (g : Fin 8) : FVec Ideal S128x1024 .f32 :=
  have row : IVec S128x1 32 := addi (broadcast S128x1 (BitVec.ofNat 32 (128 * g.val))) (iota .tc S128x1 32 [0] iota_S128x1_d0_w32)
  have keep : IVec S128x1024 1 := cmpi .sle (iota .tc S128x1024 32 [1] iota_S128x1024_d1_w32) (broadcastTo S128x1024 row broadcasts_S128x1_S128x1024)
  have s : FVec Ideal S128x1024 .f32 := extractStridedSlice S128x1024 ![128 * g.val, 0] (k2_pay4 (View.ld x0 r2_0) (View.ld x1 r2_0)) (slices_group g)
  have pen : FVec Ideal S1x1024 .f32 := shapeCast S1x1024 (View.ld x3 (Rect.unit (s := S1x1x8x2048) ![0, 0, g.val, 0] S1x1x1x1024.size (inb_group g)))
    shapeCasts_S1x1x1x1024_S1x1024
  exp2 (select keep (addf s (broadcastTo S128x1024 pen broadcasts_S1x1024_S128x1024)) (broadcast S128x1024 (Named.named κ "mask" 0xCE6E6B28#32)))

/-- A group's row sums. -/
def groupSum (x0 x1 : Vec Ideal S1024x128 .bf16) (x3 : Vec Ideal S1x1x8x2048 .f32) (g : Fin 8) : FVec Ideal S128x1 .f32 :=
  shapeCast S128x1 (multiReduction .add [1] S128 (groupTile x0 x1 x3 g) 0x00000000#32 reduces_S128x1024_S128 (.inl rfl) rfl) shapeCasts_S128_S128x1

/-- All rows' weights. -/
def weights (x0 x1 : Vec Ideal S1024x128 .bf16) (x3 : Vec Ideal S1x1x8x2048 .f32) : FVec Ideal S1024x1024 .bf16 :=
  concatenate S1024x1024 0 (List.ofFn fun g : Fin 8 => (⟨S128x1024, truncf .bf16 (groupTile x0 x1 x3 g) bitsLt_bf16_f32⟩ : (s : Shape) × (s.Idx → Ideal .bf16)))
    concatenates_S128x1024_S128x1024_S128x1024_S128x1024_S128x1024_S128x1024_S128x1024_S128x1024_S1024x1024_d0

/-- All rows' sums. -/
def sums (x0 x1 : Vec Ideal S1024x128 .bf16) (x3 : Vec Ideal S1x1x8x2048 .f32) : FVec Ideal S1024x1 .f32 :=
  concatenate S1024x1 0 (List.ofFn fun g : Fin 8 => (⟨S128x1, groupSum x0 x1 x3 g⟩ : (s : Shape) × (s.Idx → Ideal .f32)))
    concatenates_S128x1_S128x1_S128x1_S128x1_S128x1_S128x1_S128x1_S128x1_S1024x1_d0

/-- The body's result. -/
def attnTile (x0 x1 x2 : Vec Ideal S1024x128 .bf16) (x3 : Vec Ideal S1x1x8x2048 .f32) : FVec Ideal S1024x128 .bf16 :=
  have v : FVec Ideal S1024x128 .bf16 := shapeCast S1024x128 (View.ld x2 r2_0) shapeCasts_S1024x128_S1024x128
  truncf .bf16 (divf (matmul dot_S1024x1024_S1024x128_S1024x128_1_0_0_1_n_n none (weights x0 x1 x3) v (constant S1024x128 .f32 0x00000000#32))
    (broadcastTo S1024x128 (sums x0 x1 x3) broadcasts_S1024x1_S1024x128)) bitsLt_bf16_f32

theorem out_eq (x0 x1 x2 : Vec Ideal S1024x128 .bf16) (x3 : Vec Ideal S1x1x8x2048 .f32) :
    out2_4 x0 x1 x2 x3 = View.canon [⟨r2_0, attnTile x0 x1 x2 x3⟩] := rfl

/-- A row's weight on a key, from the body's blocks. -/
def rowWeight (x0 x1 : Vec Ideal S1024x128 .bf16) (x3 : Vec Ideal S1x1x8x2048 .f32) (i : Fin 1024) (c : Fin 1024) : EReal :=
  Ideal.exp2 (if c.val ≤ i.val then (∑ e : Fin 128, x0 (ix2 i e) * x1 (ix2 c e)) + x3 (ix4 0 0 ⟨i.val / 128, by omega⟩ ⟨c.val, by omega⟩) else ⊥)

/-- A group's weights at an index. -/
theorem groupTile_apply (x0 x1 : Vec Ideal S1024x128 .bf16) (x3 : Vec Ideal S1x1x8x2048 .f32) (g : Fin 8) (r : Fin 128) (c : Fin 1024) :
    groupTile x0 x1 x3 g (ix2 r c) = rowWeight x0 x1 x3 ⟨g.val * 128 + r.val, by omega⟩ c := by
  unfold rowWeight
  pointwise [groupTile, k2_pay4]
  have h0 : (⟨128 * g.val + r.val, by omega⟩ : Fin 1024) = ⟨g.val * 128 + r.val, by omega⟩ := Fin.ext (by simp only; omega)
  have h1 : (⟨(g.val * 128 + r.val) / 128, by omega⟩ : Fin 8) = g := Fin.ext (by simp only; omega)
  have h2 : IntOp.addi (BitVec.ofNat 32 (128 * g.val)) (BitVec.ofNat 32 r.val) = BitVec.ofNat 32 (g.val * 128 + r.val) := by
    rw [show g.val * 128 = 128 * g.val from Nat.mul_comm _ _, BitVec.ofNat_add]; rfl
  refine congrArg Ideal.exp2 ?_
  rw [h2, WordCmp.cmpi_sle_ofNat (by omega) (by omega), WordCmp.select_decide]
  refine if_congr Iff.rfl ?_ kernel_mask
  refine congrArg₂ (· + ·) (Finset.sum_congr rfl fun e _ => ?_) ?_
  · exact congrArg (fun a => x0 (ix2 a e) * x1 (ix2 c e)) h0
  · exact congrArg (fun a : Fin 8 => x3 (ix4 0 0 a ⟨c.val, by omega⟩)) h1.symm

theorem row_split (i : Fin 1024) : (⟨(⟨i.val / 128, by omega⟩ : Fin 8).val * 128 + (⟨i.val % 128, by omega⟩ : Fin 128).val, by simp only; omega⟩ : Fin 1024) = i :=
  Fin.ext (by simp only; omega)

theorem weights_apply (x0 x1 : Vec Ideal S1024x128 .bf16) (x3 : Vec Ideal S1x1x8x2048 .f32) (i : Fin 1024) (c : Fin 1024) :
    weights x0 x1 x3 (ix2 i c) = rowWeight x0 x1 x3 i c := by
  unfold weights
  refine (concatenate_ofFn_apply (t := S1024x1024) (s₁ := S128x1024) 0 (fun g : Fin 8 => (truncf .bf16 (groupTile x0 x1 x3 g) bitsLt_bf16_f32 : FVec Ideal S128x1024 .bf16))
    _ rfl 128 rfl (ix2 i c) ⟨i.val / 128, by omega⟩ rfl
    (ix2 ⟨i.val % 128, by omega⟩ c) rfl (fun b hb => by match b with
      | ⟨0, _⟩ => exact absurd rfl hb
      | ⟨1, _⟩ => rfl)).trans ?_
  refine (groupTile_apply x0 x1 x3 _ _ c).trans ?_
  rw [row_split]

theorem sums_apply (x0 x1 : Vec Ideal S1024x128 .bf16) (x3 : Vec Ideal S1x1x8x2048 .f32) (i : Fin 1024) :
    sums x0 x1 x3 (ix2 i 0) = ∑ c : Fin 1024, rowWeight x0 x1 x3 i c := by
  unfold sums
  refine (concatenate_ofFn_apply (t := S1024x1) (s₁ := S128x1) 0 (fun g : Fin 8 => groupSum x0 x1 x3 g)
    _ rfl 128 rfl (ix2 i 0) ⟨i.val / 128, by omega⟩ rfl
    (ix2 ⟨i.val % 128, by omega⟩ 0) rfl (fun b hb => by match b with
      | ⟨0, _⟩ => exact absurd rfl hb
      | ⟨1, _⟩ => rfl)).trans ?_
  pointwise [groupSum]
  refine Finset.sum_congr rfl fun c _ => ?_
  refine (groupTile_apply x0 x1 x3 _ _ c).trans ?_
  rw [row_split]

/-- The body's result at an index. -/
theorem attnTile_apply (x0 x1 x2 : Vec Ideal S1024x128 .bf16) (x3 : Vec Ideal S1x1x8x2048 .f32) (i : Fin 1024) (e : Fin 128) :
    attnTile x0 x1 x2 x3 (ix2 i e) = Ideal.div (∑ c : Fin 1024, rowWeight x0 x1 x3 i c * x2 (ix2 c e)) (∑ c : Fin 1024, rowWeight x0 x1 x3 i c) := by
  pointwise [attnTile]
  simp only [weights_apply, sums_apply]

variable (V : (c : Dev nD) → (b : Ref sig .tc) → Buf (Elt Ideal) ((c : Thread nD τ).loc b))

theorem idx2 : ∀ t : Fin cfg2.N, t.val < 16 ∧ win2_0.index t = ![0, t.val] ∧ win2_1.index t = ![0, t.val] ∧ win2_2.index t = ![0, t.val]
    ∧ win2_3.index t = ![t.val, 0, 0, 0] ∧ win2_4.index t = ![0, t.val] :=
  (by decide +kernel : ∀ t : Fin grid2.N, _)

/-- The head a grid point treats. -/
def headOf (t : Fin cfg2.N) : Fin 16 := ⟨t.val, (idx2 t).1⟩

theorem blk_q (c : Dev nD) (t : Fin cfg2.N) (i : Fin 1024) (e : Fin 128) :
    (iblk2 V c 0 t : FVec Ideal S1024x128 .bf16) (ix2 i e) = (V c main_v4_0 : FVec Ideal S2048x2048 .bf16) (ix2 (low i) (col (headOf t) e)) := by
  blk_ext [iblk2, idx2 t, low, col, headOf]
theorem blk_k (c : Dev nD) (t : Fin cfg2.N) (i : Fin 1024) (e : Fin 128) :
    (iblk2 V c 1 t : FVec Ideal S1024x128 .bf16) (ix2 i e) = (V c main_v4_1 : FVec Ideal S2048x2048 .bf16) (ix2 (low i) (col (headOf t) e)) := by
  blk_ext [iblk2, idx2 t, low, col, headOf]
theorem blk_v (c : Dev nD) (t : Fin cfg2.N) (i : Fin 1024) (e : Fin 128) :
    (iblk2 V c 2 t : FVec Ideal S1024x128 .bf16) (ix2 i e) = (V c main_v4_2 : FVec Ideal S2048x2048 .bf16) (ix2 (low i) (col (headOf t) e)) := by
  blk_ext [iblk2, idx2 t, low, col, headOf]
theorem blk_pen (c : Dev nD) (t : Fin cfg2.N) (g : Fin 8) (k : Fin 2048) :
    (iblk2 V c 3 t : FVec Ideal S1x1x8x2048 .f32) (ix4 0 0 g k) = (V c main_v6 : FVec Ideal S16x2x8x2048 .f32) (ix4 (headOf t) 0 g k) := by
  blk_ext [iblk2, idx2 t, headOf]

/-- The penalties by head and block: the blocks are held eight to a half. -/
def penalty (p : FVec Ideal S16x2x8x2048 .f32) : Fin 16 → Mat 16 2048 := fun h b c => p (ix4 h ⟨b.val / 8, by omega⟩ ⟨b.val % 8, by omega⟩ c)

/-- The body's weight of a row on a key is the arrays'. -/
theorem rowWeight_blk (c : Dev nD) (t : Fin cfg2.N) (i k : Fin 1024) :
    rowWeight (iblk2 V c 0 t) (iblk2 V c 1 t) (iblk2 V c 3 t) i k
      = weight (fun a b => (V c main_v4_0 : FVec Ideal S2048x2048 .bf16) (ix2 a b)) (fun a b => (V c main_v4_1 : FVec Ideal S2048x2048 .bf16) (ix2 a b))
          (penalty (V c main_v6)) (headOf t) (low i) (low k) := by
  unfold rowWeight weight
  simp only [blk_q, blk_k, blk_pen]
  refine congrArg Ideal.exp2 (if_congr Iff.rfl (congrArg₂ (· + ·) rfl ?_) rfl)
  unfold penalty
  refine congrArg (V c main_v6 : FVec Ideal S16x2x8x2048 .f32) (congrArg₂ (fun (a : Fin 2) (g : Fin 8) => ix4 (headOf t) a g (low k)) (Fin.ext ?_) (Fin.ext ?_))
  all_goals simp only [head, low]; omega

/-- The array of the first half's attention. -/
theorem low_final (c : Dev nD) : (dat2 V c).arrAt 4 cfg2.N = fun i : S1024x2048.Idx =>
    attn (fun a b => (V c main_v4_0 : FVec Ideal S2048x2048 .bf16) (ix2 a b)) (fun a b => (V c main_v4_1 : FVec Ideal S2048x2048 .bf16) (ix2 a b))
      (fun a b => (V c main_v4_2 : FVec Ideal S2048x2048 .bf16) (ix2 a b)) (penalty (V c main_v6)) (low (i 0)) (i 1) := by
  refine (dat2 V c).arrAt_eq_of_covers 4 _ (by decide +kernel) fun t hf y => ?_
  blk_simp
  rw [after2_4, out_eq]
  idx_vars y
  have e : (((View.whole main_v7).slice (win2_4.rect t)).emb (ix2 y0 y1) : S1024x2048.Idx) = ix2 y0 (col (headOf t) y1) := by
    blk_ext [idx2 t, col, headOf]
  rw [e]
  refine (?_ : _ = attnTile (iblk2 V c 0 t) (iblk2 V c 1 t) (iblk2 V c 2 t) (iblk2 V c 3 t) (ix2 y0 y1)).trans ?_
  · frame_out
  rw [attnTile_apply]
  refine (?_ : _ = attn _ _ _ _ (low y0) (col (headOf t) y1)).trans rfl
  rw [attn_low, head_col]
  simp only [rowWeight_blk, blk_v]

end Cert.KernelIdeal.Low

end
-- ==== Proof.AttnHigh.lean ====
/-
  The fourth kernel's result array: the last 1024 query rows' attention, every row over all 2048 keys. As in the third
  kernel the rows are treated in eight groups of 128, each read at an index once, for all groups.
-/
module

public import proofs.«01_k».proof.Proof.AttnLow

@[expose] public section

set_option maxRecDepth 16384

noncomputable section

namespace Cert.KernelIdeal.High

open Idealize.ShloMosaic Idealize.ShloMosaic.TcCoe Idealize.SL.Sem Cert.KernelIdeal Cert.KernelIdeal.Gen Cert.Attn
open Cert.KernelIdeal.Low (penalty)
open Idealize.ShloMosaic.Pipeline (Dat)

theorem slices_group : ∀ g : Fin 8, S1024x2048.Slices ![128 * g.val, 0] S128x2048 := by decide
theorem inb_group : ∀ g : Fin 8, ∀ a, (![0, 0, g.val, 0] : Fin 4 → Nat) a + S1x1x1x2048.size a ≤ S1x1x8x2048.size a := by decide

/-- The softmax weights of one group of 128 rows, as the body computes them. -/
def groupTile (x0 : Vec Ideal S1024x128 .bf16) (x1 : Vec Ideal S2048x128 .bf16) (x3 : Vec Ideal S1x1x8x2048 .f32) (g : Fin 8) : FVec Ideal S128x2048 .f32 :=
  have row : IVec S128x1 32 := addi (broadcast S128x1 (BitVec.ofNat 32 (1024 + 128 * g.val))) (iota .tc S128x1 32 [0] iota_S128x1_d0_w32)
  have keep : IVec S128x2048 1 := cmpi .sle (iota .tc S128x2048 32 [1] iota_S128x2048_d1_w32) (broadcastTo S128x2048 row broadcasts_S128x1_S128x2048)
  have s : FVec Ideal S128x2048 .f32 := extractStridedSlice S128x2048 ![128 * g.val, 0] (k3_pay4 (View.ld x0 r3_0) (View.ld x1 r3_1)) (slices_group g)
  have pen : FVec Ideal S1x2048 .f32 := shapeCast S1x2048 (View.ld x3 (Rect.unit (s := S1x1x8x2048) ![0, 0, g.val, 0] S1x1x1x2048.size (inb_group g)))
    shapeCasts_S1x1x1x2048_S1x2048
  exp2 (select keep (addf s (broadcastTo S128x2048 pen broadcasts_S1x2048_S128x2048)) (broadcast S128x2048 (Named.named κ "mask" 0xCE6E6B28#32)))

/-- A group's row sums. -/
def groupSum (x0 : Vec Ideal S1024x128 .bf16) (x1 : Vec Ideal S2048x128 .bf16) (x3 : Vec Ideal S1x1x8x2048 .f32) (g : Fin 8) : FVec Ideal S128x1 .f32 :=
  shapeCast S128x1 (multiReduction .add [1] S128 (groupTile x0 x1 x3 g) 0x00000000#32 reduces_S128x2048_S128 (.inl rfl) rfl) shapeCasts_S128_S128x1

/-- All rows' weights. -/
def weights (x0 : Vec Ideal S1024x128 .bf16) (x1 : Vec Ideal S2048x128 .bf16) (x3 : Vec Ideal S1x1x8x2048 .f32) : FVec Ideal S1024x2048 .bf16 :=
  concatenate S1024x2048 0 (List.ofFn fun g : Fin 8 => (⟨S128x2048, truncf .bf16 (groupTile x0 x1 x3 g) bitsLt_bf16_f32⟩ : (s : Shape) × (s.Idx → Ideal .bf16)))
    concatenates_S128x2048_S128x2048_S128x2048_S128x2048_S128x2048_S128x2048_S128x2048_S128x2048_S1024x2048_d0

/-- All rows' sums. -/
def sums (x0 : Vec Ideal S1024x128 .bf16) (x1 : Vec Ideal S2048x128 .bf16) (x3 : Vec Ideal S1x1x8x2048 .f32) : FVec Ideal S1024x1 .f32 :=
  concatenate S1024x1 0 (List.ofFn fun g : Fin 8 => (⟨S128x1, groupSum x0 x1 x3 g⟩ : (s : Shape) × (s.Idx → Ideal .f32)))
    concatenates_S128x1_S128x1_S128x1_S128x1_S128x1_S128x1_S128x1_S128x1_S1024x1_d0

/-- The body's result. -/
def attnTile (x0 : Vec Ideal S1024x128 .bf16) (x1 x2 : Vec Ideal S2048x128 .bf16) (x3 : Vec Ideal S1x1x8x2048 .f32) : FVec Ideal S1024x128 .bf16 :=
  have v : FVec Ideal S2048x128 .bf16 := shapeCast S2048x128 (View.ld x2 r3_1) shapeCasts_S2048x128_S2048x128
  truncf .bf16 (divf (matmul dot_S1024x2048_S2048x128_S1024x128_1_0_0_1_n_n none (weights x0 x1 x3) v (constant S1024x128 .f32 0x00000000#32))
    (broadcastTo S1024x128 (sums x0 x1 x3) broadcasts_S1024x1_S1024x128)) bitsLt_bf16_f32

theorem out_eq (x0 : Vec Ideal S1024x128 .bf16) (x1 x2 : Vec Ideal S2048x128 .bf16) (x3 : Vec Ideal S1x1x8x2048 .f32) :
    out3_4 x0 x1 x2 x3 = View.canon [⟨r3_0, attnTile x0 x1 x2 x3⟩] := rfl

/-- A row's weight on a key, from the body's blocks. -/
def rowWeight (x0 : Vec Ideal S1024x128 .bf16) (x1 : Vec Ideal S2048x128 .bf16) (x3 : Vec Ideal S1x1x8x2048 .f32) (i : Fin 1024) (c : Fin 2048) : EReal :=
  Ideal.exp2 (if c.val ≤ 1024 + i.val then (∑ e : Fin 128, x0 (ix2 i e) * x1 (ix2 c e)) + x3 (ix4 0 0 ⟨i.val / 128, by omega⟩ c) else ⊥)

/-- A group's weights at an index. -/
theorem groupTile_apply (x0 : Vec Ideal S1024x128 .bf16) (x1 : Vec Ideal S2048x128 .bf16) (x3 : Vec Ideal S1x1x8x2048 .f32) (g : Fin 8) (r : Fin 128) (c : Fin 2048) :
    groupTile x0 x1 x3 g (ix2 r c) = rowWeight x0 x1 x3 ⟨g.val * 128 + r.val, by omega⟩ c := by
  unfold rowWeight
  pointwise [groupTile, k3_pay4]
  have h0 : (⟨128 * g.val + r.val, by omega⟩ : Fin 1024) = ⟨g.val * 128 + r.val, by omega⟩ := Fin.ext (by simp only; omega)
  have h1 : (⟨(g.val * 128 + r.val) / 128, by omega⟩ : Fin 8) = g := Fin.ext (by simp only; omega)
  have h2 : IntOp.addi (BitVec.ofNat 32 (1024 + 128 * g.val)) (BitVec.ofNat 32 r.val) = BitVec.ofNat 32 (1024 + (g.val * 128 + r.val)) := by
    rw [show 1024 + (g.val * 128 + r.val) = (1024 + 128 * g.val) + r.val by omega, BitVec.ofNat_add (1024 + 128 * g.val)]; rfl
  refine congrArg Ideal.exp2 ?_
  rw [h2, WordCmp.cmpi_sle_ofNat (by omega) (by omega), WordCmp.select_decide]
  refine if_congr Iff.rfl ?_ kernel_mask
  refine congrArg₂ (· + ·) (Finset.sum_congr rfl fun e _ => ?_) ?_
  · exact congrArg (fun a => x0 (ix2 a e) * x1 (ix2 c e)) h0
  · exact congrArg (fun a : Fin 8 => x3 (ix4 0 0 a c)) h1.symm

theorem row_split (i : Fin 1024) : (⟨(⟨i.val / 128, by omega⟩ : Fin 8).val * 128 + (⟨i.val % 128, by omega⟩ : Fin 128).val, by simp only; omega⟩ : Fin 1024) = i :=
  Fin.ext (by simp only; omega)

theorem weights_apply (x0 : Vec Ideal S1024x128 .bf16) (x1 : Vec Ideal S2048x128 .bf16) (x3 : Vec Ideal S1x1x8x2048 .f32) (i : Fin 1024) (c : Fin 2048) :
    weights x0 x1 x3 (ix2 i c) = rowWeight x0 x1 x3 i c := by
  unfold weights
  refine (concatenate_ofFn_apply (t := S1024x2048) (s₁ := S128x2048) 0 (fun g : Fin 8 => (truncf .bf16 (groupTile x0 x1 x3 g) bitsLt_bf16_f32 : FVec Ideal S128x2048 .bf16))
    _ rfl 128 rfl (ix2 i c) ⟨i.val / 128, by omega⟩ rfl
    (ix2 ⟨i.val % 128, by omega⟩ c) rfl (fun b hb => by match b with
      | ⟨0, _⟩ => exact absurd rfl hb
      | ⟨1, _⟩ => rfl)).trans ?_
  refine (groupTile_apply x0 x1 x3 _ _ c).trans ?_
  rw [row_split]

theorem sums_apply (x0 : Vec Ideal S1024x128 .bf16) (x1 : Vec Ideal S2048x128 .bf16) (x3 : Vec Ideal S1x1x8x2048 .f32) (i : Fin 1024) :
    sums x0 x1 x3 (ix2 i 0) = ∑ c : Fin 2048, rowWeight x0 x1 x3 i c := by
  unfold sums
  refine (concatenate_ofFn_apply (t := S1024x1) (s₁ := S128x1) 0 (fun g : Fin 8 => groupSum x0 x1 x3 g)
    _ rfl 128 rfl (ix2 i 0) ⟨i.val / 128, by omega⟩ rfl
    (ix2 ⟨i.val % 128, by omega⟩ 0) rfl (fun b hb => by match b with
      | ⟨0, _⟩ => exact absurd rfl hb
      | ⟨1, _⟩ => rfl)).trans ?_
  pointwise [groupSum]
  refine Finset.sum_congr rfl fun c _ => ?_
  refine (groupTile_apply x0 x1 x3 _ _ c).trans ?_
  rw [row_split]

/-- The body's result at an index. -/
theorem attnTile_apply (x0 : Vec Ideal S1024x128 .bf16) (x1 x2 : Vec Ideal S2048x128 .bf16) (x3 : Vec Ideal S1x1x8x2048 .f32) (i : Fin 1024) (e : Fin 128) :
    attnTile x0 x1 x2 x3 (ix2 i e) = Ideal.div (∑ c : Fin 2048, rowWeight x0 x1 x3 i c * x2 (ix2 c e)) (∑ c : Fin 2048, rowWeight x0 x1 x3 i c) := by
  pointwise [attnTile]
  simp only [weights_apply, sums_apply]

variable (V : (c : Dev nD) → (b : Ref sig .tc) → Buf (Elt Ideal) ((c : Thread nD τ).loc b))

theorem idx3 : ∀ t : Fin cfg3.N, t.val < 16 ∧ win3_0.index t = ![1, t.val] ∧ win3_1.index t = ![0, t.val] ∧ win3_2.index t = ![0, t.val]
    ∧ win3_3.index t = ![t.val, 1, 0, 0] ∧ win3_4.index t = ![0, t.val] :=
  (by decide +kernel : ∀ t : Fin grid3.N, _)

/-- The head a grid point treats. -/
def headOf (t : Fin cfg3.N) : Fin 16 := ⟨t.val, (idx3 t).1⟩

theorem blk_q (c : Dev nD) (t : Fin cfg3.N) (i : Fin 1024) (e : Fin 128) :
    (iblk3 V c 0 t : FVec Ideal S1024x128 .bf16) (ix2 i e) = (V c main_v4_0 : FVec Ideal S2048x2048 .bf16) (ix2 (high i) (col (headOf t) e)) := by
  blk_ext [iblk3, idx3 t, high, col, headOf]
theorem blk_k (c : Dev nD) (t : Fin cfg3.N) (i : Fin 2048) (e : Fin 128) :
    (iblk3 V c 1 t : FVec Ideal S2048x128 .bf16) (ix2 i e) = (V c main_v4_1 : FVec Ideal S2048x2048 .bf16) (ix2 i (col (headOf t) e)) := by
  blk_ext [iblk3, idx3 t, col, headOf]
theorem blk_v (c : Dev nD) (t : Fin cfg3.N) (i : Fin 2048) (e : Fin 128) :
    (iblk3 V c 2 t : FVec Ideal S2048x128 .bf16) (ix2 i e) = (V c main_v4_2 : FVec Ideal S2048x2048 .bf16) (ix2 i (col (headOf t) e)) := by
  blk_ext [iblk3, idx3 t, col, headOf]
theorem blk_pen (c : Dev nD) (t : Fin cfg3.N) (g : Fin 8) (k : Fin 2048) :
    (iblk3 V c 3 t : FVec Ideal S1x1x8x2048 .f32) (ix4 0 0 g k) = (V c main_v6 : FVec Ideal S16x2x8x2048 .f32) (ix4 (headOf t) 1 g k) := by
  blk_ext [iblk3, idx3 t, headOf]

/-- The body's weight of a row on a key is the arrays'. -/
theorem rowWeight_blk (c : Dev nD) (t : Fin cfg3.N) (i : Fin 1024) (k : Fin 2048) :
    rowWeight (iblk3 V c 0 t) (iblk3 V c 1 t) (iblk3 V c 3 t) i k
      = weight (fun a b => (V c main_v4_0 : FVec Ideal S2048x2048 .bf16) (ix2 a b)) (fun a b => (V c main_v4_1 : FVec Ideal S2048x2048 .bf16) (ix2 a b))
          (penalty (V c main_v6)) (headOf t) (high i) k := by
  unfold rowWeight weight
  simp only [blk_q, blk_k, blk_pen]
  refine congrArg Ideal.exp2 (if_congr Iff.rfl (congrArg₂ (· + ·) rfl ?_) rfl)
  unfold penalty
  refine congrArg (V c main_v6 : FVec Ideal S16x2x8x2048 .f32) (congrArg₂ (fun (a : Fin 2) (g : Fin 8) => ix4 (headOf t) a g k) (Fin.ext ?_) (Fin.ext ?_))
  all_goals simp only [head, high]; omega

/-- The array of the second half's attention. -/
theorem high_final (c : Dev nD) : (dat3 V c).arrAt 4 cfg3.N = fun i : S1024x2048.Idx =>
    attn (fun a b => (V c main_v4_0 : FVec Ideal S2048x2048 .bf16) (ix2 a b)) (fun a b => (V c main_v4_1 : FVec Ideal S2048x2048 .bf16) (ix2 a b))
      (fun a b => (V c main_v4_2 : FVec Ideal S2048x2048 .bf16) (ix2 a b)) (penalty (V c main_v6)) (high (i 0)) (i 1) := by
  refine (dat3 V c).arrAt_eq_of_covers 4 _ (by decide +kernel) fun t hf y => ?_
  blk_simp
  rw [after3_4, out_eq]
  idx_vars y
  have e : (((View.whole main_v8).slice (win3_4.rect t)).emb (ix2 y0 y1) : S1024x2048.Idx) = ix2 y0 (col (headOf t) y1) := by
    blk_ext [idx3 t, col, headOf]
  rw [e]
  refine (?_ : _ = attnTile (iblk3 V c 0 t) (iblk3 V c 1 t) (iblk3 V c 2 t) (iblk3 V c 3 t) (ix2 y0 y1)).trans ?_
  · frame_out
  rw [attnTile_apply]
  refine (?_ : _ = attn _ _ _ _ (high y0) (col (headOf t) y1)).trans rfl
  unfold attn
  rw [head_col]
  simp only [rowWeight_blk, blk_v]

end Cert.KernelIdeal.High

end
-- ==== Proof.ProjArray.lean ====
/-
  The last kernel's result array: the two row halves of the attention result against the output weight's rows.
-/
module

public import proofs.«01_k».proof.Proof.Spec
public import proofs.«01_k».proof.Proof.Consts
public import proofs.«01_k».proof.Proof.Gen.KernelIdeal.Frame
public import Idealize.ShloMosaic.Lib.Pipeline.ValueKit

@[expose] public section

set_option maxRecDepth 16384

noncomputable section

namespace Cert.KernelIdeal.Out

open Idealize.ShloMosaic Idealize.ShloMosaic.TcCoe Idealize.SL.Sem Cert.KernelIdeal Cert.KernelIdeal.Gen Cert.Attn
open Idealize.ShloMosaic.Pipeline (Dat)

variable (V : (c : Dev nD) → (b : Ref sig .tc) → Buf (Elt Ideal) ((c : Thread nD τ).loc b))

theorem idx4 : ∀ t : Fin cfg4.N, t.val < 4 ∧ (grid4.coords t 0).val = t.val ∧ win4_0.index t = ![t.val % 2, 0] ∧ win4_1.index t = ![t.val % 2, 0]
    ∧ win4_2.index t = ![0, 0] ∧ win4_3.index t = ![t.val, 0] :=
  (by decide +kernel : ∀ t : Fin grid4.N, _)

/-- The two row halves one above the other. -/
def halves (lo hi : Mat 1024 2048) : Mat 2048 2048 := fun i j =>
  if h : i.val < 1024 then lo ⟨i.val, h⟩ j else hi ⟨i.val - 1024, by omega⟩ j

/-- The array row at row `i` of tile `t`. -/
def tileRow (t : Fin cfg4.N) (i : Fin 512) : Fin 2048 := ⟨t.val * 512 + i.val, by have := (idx4 t).1; omega⟩
/-- The row of a half at row `i` of tile `t`. -/
def halfRow (t : Fin cfg4.N) (i : Fin 512) : Fin 1024 := ⟨t.val % 2 * 512 + i.val, by omega⟩

theorem blk_lo (c : Dev nD) (t : Fin cfg4.N) (i : Fin 512) (k : Fin 2048) :
    (iblk4 V c 0 t : FVec Ideal S512x2048 .bf16) (ix2 i k) = (V c main_v7 : FVec Ideal S1024x2048 .bf16) (ix2 (halfRow t i) k) := by
  blk_ext [iblk4, idx4 t, halfRow]
theorem blk_hi (c : Dev nD) (t : Fin cfg4.N) (i : Fin 512) (k : Fin 2048) :
    (iblk4 V c 1 t : FVec Ideal S512x2048 .bf16) (ix2 i k) = (V c main_v8 : FVec Ideal S1024x2048 .bf16) (ix2 (halfRow t i) k) := by
  blk_ext [iblk4, idx4 t, halfRow]
theorem blk_w (c : Dev nD) (t : Fin cfg4.N) (i k : Fin 2048) :
    (iblk4 V c 2 t : FVec Ideal S2048x2048 .bf16) (ix2 i k) = (V c main_v9 : FVec Ideal S2048x2048 .bf16) (ix2 i k) := by
  blk_ext [iblk4, idx4 t]

/-- The body's choice of half for a row. -/
theorem select_half (lo hi : Mat 1024 2048) (t : Fin cfg4.N) (i : Fin 512) (k : Fin 2048) :
    Scalar.select (Scalar.cmpi .slt (BitVec.ofNat 32 (grid4.coords t 0).val) 2#32) (lo (halfRow t i) k) (hi (halfRow t i) k) = halves lo hi (tileRow t i) k := by
  have h := idx4 t
  rw [h.2.1, show Scalar.cmpi .slt (BitVec.ofNat 32 t.val) 2#32 = BitVec.ofBool (decide (t.val < 2)) from WordCmp.cmpi_slt_ofNat (b := 2) (by omega) (by omega),
    WordCmp.select_decide]
  unfold halves
  by_cases h2 : t.val < 2
  · rw [if_pos h2, dif_pos (by simp only [tileRow]; omega)]
    refine congrArg (lo · k) (Fin.ext ?_)
    simp only [halfRow, tileRow]; omega
  · rw [if_neg h2, dif_neg (by simp only [tileRow]; omega)]
    refine congrArg (hi · k) (Fin.ext ?_)
    simp only [halfRow, tileRow]; omega

/-- A row of the body's product. -/
theorem row_proj (lo hi : Mat 1024 2048) (w : Mat 2048 2048) (t : Fin cfg4.N) (x0 x1 : FVec Ideal S512x2048 .bf16) (x2 : FVec Ideal S2048x2048 .bf16)
    (h0 : ∀ i k, x0 (ix2 i k) = lo (halfRow t i) k) (h1 : ∀ i k, x1 (ix2 i k) = hi (halfRow t i) k) (h2 : ∀ i k, x2 (ix2 i k) = w i k) (i : Fin 512) (j : Fin 2048) :
    k4_pay1 (F := Ideal) (grid4.coords t) x0 x1 x2 (ix2 i j) = proj (halves lo hi) w (tileRow t i) j := by
  pointwise [k4_pay1]
  refine Finset.sum_congr rfl fun k _ => ?_
  rw [h0, h1, h2]
  exact congrArg (· * _) (select_half lo hi t i k)

/-- The array of the output projection. -/
theorem out_final (c : Dev nD) : (dat4 V c).arrAt 3 cfg4.N = fun i : S2048x2048.Idx =>
    proj (halves (fun a b => (V c main_v7 : FVec Ideal S1024x2048 .bf16) (ix2 a b)) (fun a b => (V c main_v8 : FVec Ideal S1024x2048 .bf16) (ix2 a b)))
      (fun a b => (V c main_v9 : FVec Ideal S2048x2048 .bf16) (ix2 a b)) (i 0) (i 1) := by
  refine (dat4 V c).arrAt_eq_of_covers 3 _ (by decide +kernel) fun t hf y => ?_
  blk_simp
  rw [after4_3]
  idx_vars y
  have e : (((View.whole main_v10).slice (win4_3.rect t)).emb (ix2 y0 y1) : S2048x2048.Idx) = ix2 (tileRow t y0) y1 := by
    blk_ext [idx4 t, tileRow]
  rw [e]
  refine (?_ : _ = k4_pay1 (F := Ideal) (grid4.coords t) (iblk4 V c 0 t) (iblk4 V c 1 t) (iblk4 V c 2 t) (ix2 y0 y1)).trans ?_
  · frame_out
  exact row_proj _ _ _ t _ _ _ (blk_lo V c t) (blk_hi V c t) (blk_w V c t) y0 y1

end Cert.KernelIdeal.Out

end
-- ==== Proof.Boundary.lean ====
/-
  The buffers' contents at the boundaries between the five kernels, as the mathematics of the arguments.
-/
module

public import proofs.«01_k».proof.Proof.QkvArrays
public import proofs.«01_k».proof.Proof.GateArray
public import proofs.«01_k».proof.Proof.Spread
public import proofs.«01_k».proof.Proof.AttnHigh
public import proofs.«01_k».proof.Proof.ProjArray

@[expose] public section

set_option maxRecDepth 16384

noncomputable section

namespace Cert.KernelIdeal.Value

open Idealize.ShloMosaic Idealize.ShloMosaic.TcCoe Idealize.SL.Sem Cert.KernelIdeal Cert.KernelIdeal.Gen Cert.Attn

variable (m : (ℓ : Loc nD τ sig) → Buf (Elt Ideal) ℓ) (ρ : Dev nD → PrngReg) (c : Dev nD)

/-- The arguments as matrices. -/
def hidden : Mat 2048 2048 := fun i j => (m ((c.tc : Thread nD τ).loc main_arg0) : FVec Ideal S1x2048x2048 .f32) (ix3 0 i j)
def cosine : Mat 2048 128 := fun i j => (m ((c.tc : Thread nD τ).loc main_arg1) : FVec Ideal S1x2048x128 .f32) (ix3 0 i j)
def sine : Mat 2048 128 := fun i j => (m ((c.tc : Thread nD τ).loc main_arg2) : FVec Ideal S1x2048x128 .f32) (ix3 0 i j)
def wq : Mat 2048 2048 := fun i j => (m ((c.tc : Thread nD τ).loc main_arg3) : FVec Ideal S2048x2048 .f32) (ix2 i j)
def wk : Mat 2048 2048 := fun i j => (m ((c.tc : Thread nD τ).loc main_arg4) : FVec Ideal S2048x2048 .f32) (ix2 i j)
def wv : Mat 2048 2048 := fun i j => (m ((c.tc : Thread nD τ).loc main_arg5) : FVec Ideal S2048x2048 .f32) (ix2 i j)
def wo : Mat 2048 2048 := fun i j => (m ((c.tc : Thread nD τ).loc main_arg6) : FVec Ideal S2048x2048 .f32) (ix2 i j)

/-- Equal arguments give equal results, three and four at a time. -/
theorem congr_three {A B C D : Type} (f : A → B → C → D) {a a' : A} {b b' : B} {x x' : C} (h1 : a = a') (h2 : b = b') (h3 : x = x') :
    f a b x = f a' b' x' := by subst h1 h2 h3; rfl
theorem congr_four {A B C D E : Type} (f : A → B → C → D → E) {a a' : A} {b b' : B} {x x' : C} {y y' : D} (h1 : a = a') (h2 : b = b')
    (h3 : x = x') (h4 : y = y') : f a b x y = f a' b' x' y' := by subst h1 h2 h3 h4; rfl

/-- The host's reshapes at an index. -/
theorem reshape_x (x : FVec Ideal S1x2048x2048 .f32) (i j : Fin 2048) :
    shapeCast S2048x2048 x shapeCasts_S1x2048x2048_S2048x2048 (ix2 i j) = x (ix3 0 i j) := by pointwise
theorem reshape_cs (x : FVec Ideal S1x2048x128 .f32) (i : Fin 2048) (j : Fin 128) :
    shapeCast S2048x128 x shapeCasts_S1x2048x128_S2048x128 (ix2 i j) = x (ix3 0 i j) := by pointwise
theorem reshape_pen (x : FVec Ideal S16x16x2048 .f32) (h : Fin 16) (a : Fin 2) (g : Fin 8) (j : Fin 2048) :
    shapeCast S16x2x8x2048 x shapeCasts_S16x16x2048_S16x2x8x2048 (ix4 h a g j) = x (ix3 h ⟨a.val * 8 + g.val, by omega⟩ j) := by pointwise
theorem broadcast_out (x : FVec Ideal S2048x2048 .f32) (i j : Fin 2048) :
    broadcastInDim S1x2048x2048 ![1, 2] bcast_S2048x2048_S1x2048x2048_1_2 x (ix3 0 i j) = x (ix2 i j) := by pointwise

/-- The first kernel's operands. -/
theorem V1_x (i j : Fin 2048) : (V1 m ρ c main_v0 : FVec Ideal S2048x2048 .f32) (ix2 i j) = hidden m c i j := by
  refine (congrFun (?_ : V1 m ρ c main_v0 = shapeCast S2048x2048 (m ((c.tc : Thread nD τ).loc main_arg0)) shapeCasts_S1x2048x2048_S2048x2048) _).trans (reshape_x _ i j)
  show StableHlo.after hostOps0 (W0 m ρ c) (Proc.devRef .tc main_v0) = _
  after_results
  rfl
theorem V1_cos (i : Fin 2048) (j : Fin 128) : (V1 m ρ c main_v1 : FVec Ideal S2048x128 .f32) (ix2 i j) = cosine m c i j := by
  refine (congrFun (?_ : V1 m ρ c main_v1 = shapeCast S2048x128 (m ((c.tc : Thread nD τ).loc main_arg1)) shapeCasts_S1x2048x128_S2048x128) _).trans (reshape_cs _ i j)
  show StableHlo.after hostOps0 (W0 m ρ c) (Proc.devRef .tc main_v1) = _
  after_results
  rfl
theorem V1_sin (i : Fin 2048) (j : Fin 128) : (V1 m ρ c main_v2 : FVec Ideal S2048x128 .f32) (ix2 i j) = sine m c i j := by
  refine (congrFun (?_ : V1 m ρ c main_v2 = shapeCast S2048x128 (m ((c.tc : Thread nD τ).loc main_arg2)) shapeCasts_S1x2048x128_S2048x128) _).trans (reshape_cs _ i j)
  show StableHlo.after hostOps0 (W0 m ρ c) (Proc.devRef .tc main_v2) = _
  after_results
  rfl
theorem V1_wq (i j : Fin 2048) : (V1 m ρ c main_arg3 : FVec Ideal S2048x2048 .f32) (ix2 i j) = wq m c i j :=
  congrFun (W1_args m ρ c main_arg3 (by decide)) _
theorem V1_wk (i j : Fin 2048) : (V1 m ρ c main_arg4 : FVec Ideal S2048x2048 .f32) (ix2 i j) = wk m c i j :=
  congrFun (W1_args m ρ c main_arg4 (by decide)) _
theorem V1_wv (i j : Fin 2048) : (V1 m ρ c main_v3 : FVec Ideal S2048x2048 .bf16) (ix2 i j) = wv m c i j := by
  refine congrFun (?_ : V1 m ρ c main_v3 = m ((c.tc : Thread nD τ).loc main_arg5)) _
  show StableHlo.after hostOps0 (W0 m ρ c) (Proc.devRef .tc main_v3) = _
  after_results
  rfl
/-- The spreading operand of the second kernel. -/
theorem V2_e (q : Fin 16) (j : Fin 2048) : (V2 m ρ c main_cst : FVec Ideal S16x2048 .f32) (ix2 q j) = (if q = head j then 1 else 0 : EReal) := by
  refine (congrFun (W2_of m ρ c main_cst (by decide)) _).trans ?_
  refine (congrFun (?_ : W1 m ρ c (Proc.devRef .tc main_cst) = (fun i => FloatOps.ofBits .f32 (lit0 (S16x2048.rowMajor i)) : FVec Ideal S16x2048 .f32)) (ix2 q j)).trans (Gate.spread_apply q j)
  show StableHlo.after hostOps0 (W0 m ρ c) (Proc.devRef .tc main_cst) = _
  after_results
  rfl

/-- The rotated query and key, and the value projection, of the arguments. -/
def query : Mat 2048 2048 := rope (proj (hidden m c) (wq m c)) (cosine m c) (sine m c)
def key : Mat 2048 2048 := rope (proj (hidden m c) (wk m c)) (cosine m c) (sine m c)
def value : Mat 2048 2048 := proj (hidden m c) (wv m c)
/-- The query with the scale and the change of base. -/
def scaledQuery : Mat 2048 2048 := fun i j => query m c i j * (((Real.sqrt 128)⁻¹ * (Real.log 2)⁻¹ : ℝ) : EReal)

theorem tile_query : Tile.query (V1 m ρ) c = query m c := by
  exact congr_four (fun x w s t => rope (proj x w) s t) (funext fun a => funext fun b => V1_x m ρ c a b)
    (funext fun a => funext fun b => V1_wq m ρ c a b) (funext fun a => funext fun b => V1_cos m ρ c a b) (funext fun a => funext fun b => V1_sin m ρ c a b)
theorem tile_key : Tile.key (V1 m ρ) c = key m c := by
  exact congr_four (fun x w s t => rope (proj x w) s t) (funext fun a => funext fun b => V1_x m ρ c a b)
    (funext fun a => funext fun b => V1_wk m ρ c a b) (funext fun a => funext fun b => V1_cos m ρ c a b) (funext fun a => funext fun b => V1_sin m ρ c a b)
theorem tile_value : Tile.value (V1 m ρ) c = value m c := by
  exact congrArg₂ (fun x w => proj x w) (funext fun a => funext fun b => V1_x m ρ c a b)
    (funext fun a => funext fun b => V1_wv m ρ c a b)

/-- The first kernel's results. -/
theorem V2_q (i j : Fin 2048) : (V2 m ρ c main_v4_0 : FVec Ideal S2048x2048 .bf16) (ix2 i j) = scaledQuery m c i j :=
  (congrFun ((W2_arr m ρ c 6).trans (Tile.query_final (V1 m ρ) c)) (ix2 i j)).trans
    (congrArg (fun q : Mat 2048 2048 => q i j * (((Real.sqrt 128)⁻¹ * (Real.log 2)⁻¹ : ℝ) : EReal)) (tile_query m ρ c))
theorem V2_k (i j : Fin 2048) : (V2 m ρ c main_v4_1 : FVec Ideal S2048x2048 .bf16) (ix2 i j) = key m c i j :=
  (congrFun ((W2_arr m ρ c 7).trans (Tile.key_final (V1 m ρ) c)) (ix2 i j)).trans (congrArg (fun q : Mat 2048 2048 => q i j) (tile_key m ρ c))
theorem V2_v (i j : Fin 2048) : (V2 m ρ c main_v4_2 : FVec Ideal S2048x2048 .bf16) (ix2 i j) = value m c i j :=
  (congrFun ((W2_arr m ρ c 8).trans (Tile.value_final (V1 m ρ) c)) (ix2 i j)).trans (congrArg (fun q : Mat 2048 2048 => q i j) (tile_value m ρ c))
theorem V2_qp (b : Fin 16) (j : Fin 2048) : (V2 m ρ c main_v4_3 : FVec Ideal S16x1x2048 .f32) (ix3 b 0 j) = Attn.pool (query m c) b j :=
  (congrFun ((W2_arr m ρ c 9).trans (Tile.qpool_final (V1 m ρ) c)) (ix3 b 0 j)).trans (congrArg (fun q : Mat 2048 2048 => Attn.pool q b j) (tile_query m ρ c))
theorem V2_kp (b : Fin 16) (j : Fin 2048) : (V2 m ρ c main_v4_4 : FVec Ideal S16x1x2048 .f32) (ix3 b 0 j) = Attn.pool (key m c) b j :=
  (congrFun ((W2_arr m ρ c 10).trans (Tile.kpool_final (V1 m ρ) c)) (ix3 b 0 j)).trans (congrArg (fun q : Mat 2048 2048 => Attn.pool q b j) (tile_key m ρ c))

/-- The gate of the arguments. -/
def gate (h b q : Fin 16) : Prop := Gate (Attn.pool (query m c)) (Attn.pool (key m c)) h b q

open scoped Classical in
/-- The penalties: nothing on a kept block's keys, infinite on a dropped one's. -/
def penalties : Fin 16 → Mat 16 2048 := fun h b j => if gate m c h b (head j) then 0 else ⊥

open scoped Classical in
/-- The second kernel's result. -/
theorem V3_pen (h b : Fin 16) (j : Fin 2048) : (V3 m ρ c main_v5 : FVec Ideal S16x16x2048 .f32) (ix3 h b j) = penalties m c h b j := by
  refine (congrFun ((W3_arr m ρ c 3).trans (Gate.gate_final (V2 m ρ) c)) (ix3 h b j)).trans ?_
  have e1 : (fun a b => (V2 m ρ c main_v4_3 : FVec Ideal S16x1x2048 .f32) (ix3 a 0 b)) = Attn.pool (query m c) := funext fun a => funext fun b => V2_qp m ρ c a b
  have e2 : (fun a b => (V2 m ρ c main_v4_4 : FVec Ideal S16x1x2048 .f32) (ix3 a 0 b)) = Attn.pool (key m c) := funext fun a => funext fun b => V2_kp m ρ c a b
  show (∑ q : Fin 16, (if Gate (fun a b => (V2 m ρ c main_v4_3 : FVec Ideal S16x1x2048 .f32) (ix3 a 0 b)) (fun a b => (V2 m ρ c main_v4_4 : FVec Ideal S16x1x2048 .f32) (ix3 a 0 b)) h b q
      then 0 else ⊥ : EReal) * (V2 m ρ c main_cst : FVec Ideal S16x2048 .f32) (ix2 q j) : EReal) = _
  rw [e1, e2]
  have e3 : ∀ q : Fin 16, (V2 m ρ c main_cst : FVec Ideal S16x2048 .f32) (ix2 q j) = (if q = head j then 1 else 0 : EReal) := fun q => V2_e m ρ c q j
  refine (Finset.sum_congr rfl fun q _ => congrArg ((if Gate (Attn.pool (query m c)) (Attn.pool (key m c)) h b q then 0 else ⊥ : EReal) * ·) (e3 q)).trans ?_
  rw [Finset.sum_eq_single (head j) (fun q _ hq => by rw [if_neg hq, mul_zero]) (fun hq => absurd (Finset.mem_univ _) hq), if_pos rfl, mul_one]
  rfl

/-- The attention kernels' operands. -/
theorem V4_q (i j : Fin 2048) : (V4 m ρ c main_v4_0 : FVec Ideal S2048x2048 .bf16) (ix2 i j) = scaledQuery m c i j :=
  (congrFun ((W4_of m ρ c main_v4_0 (by decide)).trans (W3_of m ρ c main_v4_0 (by decide))) _).trans (V2_q m ρ c i j)
theorem V4_k (i j : Fin 2048) : (V4 m ρ c main_v4_1 : FVec Ideal S2048x2048 .bf16) (ix2 i j) = key m c i j :=
  (congrFun ((W4_of m ρ c main_v4_1 (by decide)).trans (W3_of m ρ c main_v4_1 (by decide))) _).trans (V2_k m ρ c i j)
theorem V4_v (i j : Fin 2048) : (V4 m ρ c main_v4_2 : FVec Ideal S2048x2048 .bf16) (ix2 i j) = value m c i j :=
  (congrFun ((W4_of m ρ c main_v4_2 (by decide)).trans (W3_of m ρ c main_v4_2 (by decide))) _).trans (V2_v m ρ c i j)
theorem V4_pen : Low.penalty (V4 m ρ c main_v6) = penalties m c := by
  funext h b j
  refine (congrFun (?_ : V4 m ρ c main_v6 = shapeCast S16x2x8x2048 (V3 m ρ c main_v5) shapeCasts_S16x16x2048_S16x2x8x2048) _).trans ((reshape_pen _ _ _ _ _).trans ?_)
  · show StableHlo.after hostOps2 (W3 m ρ c) (Proc.devRef .tc main_v6) = _
    after_results
    rfl
  · refine (V3_pen m ρ c _ _ _).trans (congrArg (fun b => penalties m c h b j) (Fin.ext ?_))
    simp only
    omega

/-- The attention result of the arguments. -/
def attention : Mat 2048 2048 := attn (scaledQuery m c) (key m c) (value m c) (penalties m c)

/-- The two attention kernels' results. -/
theorem V5_low (i : Fin 1024) (j : Fin 2048) : (V5 m ρ c main_v7 : FVec Ideal S1024x2048 .bf16) (ix2 i j) = attention m c (low i) j := by
  refine (congrFun ((W5_arr m ρ c 4).trans (Low.low_final (V4 m ρ) c)) (ix2 i j)).trans ?_
  rw [V4_pen]
  exact congr_three (fun q k v => attn q k v (penalties m c) (low i) j) (funext fun a => funext fun b => V4_q m ρ c a b)
    (funext fun a => funext fun b => V4_k m ρ c a b) (funext fun a => funext fun b => V4_v m ρ c a b)
theorem V6_high (i : Fin 1024) (j : Fin 2048) : (V6 m ρ c main_v8 : FVec Ideal S1024x2048 .bf16) (ix2 i j) = attention m c (high i) j := by
  refine (congrFun ((W6_arr m ρ c 4).trans (High.high_final (V5 m ρ) c)) (ix2 i j)).trans ?_
  rw [show Low.penalty (V5 m ρ c main_v6) = penalties m c from (congrArg Low.penalty (W5_of m ρ c main_v6 (by decide))).trans (V4_pen m ρ c)]
  exact congr_three (fun q k v => attn q k v (penalties m c) (high i) j)
    (funext fun a => funext fun b => (congrFun (W5_of m ρ c main_v4_0 (by decide)) _).trans (V4_q m ρ c a b))
    (funext fun a => funext fun b => (congrFun (W5_of m ρ c main_v4_1 (by decide)) _).trans (V4_k m ρ c a b))
    (funext fun a => funext fun b => (congrFun (W5_of m ρ c main_v4_2 (by decide)) _).trans (V4_v m ρ c a b))

/-- The last kernel's operands. -/
theorem V7_halves : Out.halves (fun a b => (V7 m ρ c main_v7 : FVec Ideal S1024x2048 .bf16) (ix2 a b)) (fun a b => (V7 m ρ c main_v8 : FVec Ideal S1024x2048 .bf16) (ix2 a b))
    = attention m c := by
  funext i j
  unfold Out.halves
  split
  · refine (congrFun ((W7_of m ρ c main_v7 (by decide)).trans (W6_of m ρ c main_v7 (by decide))) _).trans ((V5_low m ρ c _ j).trans ?_)
    rfl
  · refine (congrFun (W7_of m ρ c main_v8 (by decide)) _).trans ((V6_high m ρ c _ j).trans (congrArg (attention m c · j) (Fin.ext ?_)))
    simp only [high]
    omega
theorem V7_wo (i j : Fin 2048) : (V7 m ρ c main_v9 : FVec Ideal S2048x2048 .bf16) (ix2 i j) = wo m c i j := by
  refine congrFun (?_ : V7 m ρ c main_v9 = m ((c.tc : Thread nD τ).loc main_arg6)) _
  refine Eq.trans ?_ (W6_args m ρ c main_arg6 (by decide))
  show StableHlo.after hostOps4 (W6 m ρ c) (Proc.devRef .tc main_v9) = _
  after_results
  rfl

/-- The result buffer at the end. -/
theorem W9_out (i j : Fin 2048) : (W9 m ρ c (Proc.devRef .tc main_v11) : FVec Ideal S1x2048x2048 .f32) (ix3 0 i j) = proj (attention m c) (wo m c) i j := by
  refine (congrFun (?_ : W9 m ρ c (Proc.devRef .tc main_v11) = broadcastInDim S1x2048x2048 ![1, 2] bcast_S2048x2048_S1x2048x2048_1_2
    (W8 m ρ c (Proc.devRef .tc main_v10))) _).trans ((broadcast_out _ i j).trans ?_)
  · show StableHlo.after hostOps5 (W8 m ρ c) (Proc.devRef .tc main_v11) = _
    after_results
  · refine (congrFun ((W8_arr m ρ c 3).trans (Out.out_final (V7 m ρ) c)) (ix2 i j)).trans ?_
    rw [V7_halves]
    exact congrArg (fun w : Mat 2048 2048 => proj (attention m c) w i j) (funext fun a => funext fun b => V7_wo m ρ c a b)

end Cert.KernelIdeal.Value

end
-- ==== Proof.KernelRun.lean ====
/-
  The kernel program's run, with the contents of its result: every weakly fair execution ends with the arguments as
  launched, every counter at zero, and the result buffer at the last boundary's contents.
-/
module

public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over @main's segments, the result buffer read at the last boundary beside the arguments. -/
theorem kernel_run : θ_run defs (onTc (τ := τ) (main (F := F))) ⟨m, fun _ => 0, ρ⟩ (fun r => (∀ c : Dev nD,
      r.2.mem ((c.tc : Thread nD τ).loc main_v11) = W9 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨(fun c =>
      ⟨h c _ (mem_uc main_v11 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩), funext fun g => hz g (.inr (no_unscoped g.2))⟩)

end Cert.KernelIdeal.Value

end
-- ==== Proof.RefHeads.lean ====
/-
  The reference's rotated queries and keys, its values by head, and its block means, each read at an index as the
  layer's mathematics of the arguments. The key's operations are the query's on another weight.
-/
module

public import proofs.«01_k».proof.Proof.Gen.ReferenceIdeal.Read
public import Idealize.ShloMosaic.Lib.IdealHost
public import Idealize.ShloMosaic.Lib.ValueIdx
public import Idealize.ShloMosaic.Lib.Pointwise
public import proofs.«01_k».proof.Proof.Spec
public import proofs.«01_k».proof.Proof.Consts

@[expose] public section

set_option maxRecDepth 16384

noncomputable section

namespace Cert.ReferenceIdeal.Whole

open Cert.ReferenceIdeal Cert.ReferenceIdeal.Gen Cert.ReferenceIdeal.Read Idealize.ShloMosaic Idealize.ShloMosaic.TcCoe Cert.Attn

/-- The arguments as matrices. -/
def rows (x : FVec Ideal S1x2048x2048 .f32) : Mat 2048 2048 := fun i j => x (ix3 0 i j)
def lanes (x : FVec Ideal S1x2048x128 .f32) : Mat 2048 128 := fun i j => x (ix3 0 i j)
def mat (x : FVec Ideal S2048x2048 .f32) : Mat 2048 2048 := fun i j => x (ix2 i j)

/-- The layout operations at an index, over any vectors. -/
theorem reshape_rows (x : FVec Ideal S1x2048x2048 .f32) (i j : Fin 2048) :
    shapeCast S2048x2048 x shapeCasts_S1x2048x2048_S2048x2048 (ix2 i j) = rows x i j := by unfold rows; pointwise
theorem turn_mat (x : FVec Ideal S2048x2048 .f32) (i j : Fin 2048) :
    transpose S2048x2048 [1, 0] x transposes_S2048x2048_S2048x2048_1_0 (ix2 i j) = mat x j i := by unfold mat; pointwise
theorem by_head (y : FVec Ideal S2048x2048 .f32) (h : Fin 16) (i : Fin 2048) (e : Fin 128) :
    transpose S16x2048x128 [1, 0, 2] (shapeCast S2048x16x128 y shapeCasts_S2048x2048_S2048x16x128) transposes_S2048x16x128_S16x2048x128_1_0_2 (ix3 h i e)
      = y (ix2 i (col h e)) := by pointwise [col]
theorem spread_lanes (x : FVec Ideal S1x2048x128 .f32) (h : Fin 16) (i : Fin 2048) (e : Fin 128) :
    broadcastInDim S16x2048x128 ![0, 1, 2] bcast_S1x2048x128_S16x2048x128_0_1_2
      (broadcastInDim S1x2048x128 ![1, 2] bcast_S2048x128_S1x2048x128_1_2 (shapeCast S2048x128 x shapeCasts_S1x2048x128_S2048x128)) (ix3 h i e)
      = lanes x i e := by unfold lanes; pointwise
theorem turned_halves (t : FVec Ideal S16x2048x128 .f32) (h : Fin 16) (i : Fin 2048) (e : Fin 128) :
    concatenate S16x2048x128 2 [⟨S16x2048x64, Host.negf (extractStridedSlice S16x2048x64 ![0, 0, 64] t slices_S16x2048x128_S16x2048x64_0_0_64)⟩,
      ⟨S16x2048x64, extractStridedSlice S16x2048x64 ![0, 0, 0] t slices_S16x2048x128_S16x2048x64_0_0_0⟩]
      concatenates_S16x2048x64_S16x2048x64_S16x2048x128_d2 (ix3 h i e)
      = if e.val < 64 then -(t (ix3 h i (half e))) else t (ix3 h i (half e)) := by
  pointwise
  split
  · rw [show (⟨64 + e.val, by omega⟩ : Fin 128) = half e from Fin.ext (by simp only [half]; omega)]
  · rw [show (⟨e.val - 64, by omega⟩ : Fin 128) = half e from Fin.ext (by simp only [half]; omega)]
theorem by_block (t : FVec Ideal S16x2048x128 .f32) (h b : Fin 16) (r e : Fin 128) :
    shapeCast S16x16x128x128 t shapeCasts_S16x2048x128_S16x16x128x128 (ix4 h b r e) = t (ix3 h (col b r) e) := by pointwise [col]

variable (x0 : FVec Ideal S1x2048x2048 .f32) (x1 x2 : FVec Ideal S1x2048x128 .f32) (x3 x4 x5 : FVec Ideal S2048x2048 .f32)

/-- A projection by head. -/
theorem proj_at (i j : Fin 2048) : val_main_v4 (F := Ideal) x0 x3 (ix2 i j) = proj (rows x0) (mat x3) i j := by
  rw [val_main_v4_apply]
  refine Finset.sum_congr rfl fun k _ => congrArg₂ (· * ·) ?_ ?_
  · rw [show lidx_main_v4 (ix2 i j) k = ix2 i k from funext fun a => match a with | ⟨0, _⟩ => rfl | ⟨1, _⟩ => rfl]
    exact reshape_rows x0 i k
  · rw [show ridx_main_v4 (ix2 i j) k = ix2 k j from funext fun a => match a with | ⟨0, _⟩ => rfl | ⟨1, _⟩ => rfl]
    exact turn_mat x3 k j
theorem head_at (h : Fin 16) (i : Fin 2048) (e : Fin 128) : val_main_v6 (F := Ideal) x0 x3 (ix3 h i e) = proj (rows x0) (mat x3) i (col h e) :=
  (by_head _ h i e).trans (proj_at x0 x3 i (col h e))
theorem value_at (h : Fin 16) (i : Fin 2048) (e : Fin 128) : val_main_v14 (F := Ideal) x0 x5 (ix3 h i e) = proj (rows x0) (mat x5) i (col h e) :=
  head_at x0 x5 h i e

/-- The rotated projection. -/
def turned : Mat 2048 2048 := rope (proj (rows x0) (mat x3)) (lanes x1) (lanes x2)

theorem turned_at (h : Fin 16) (i : Fin 2048) (e : Fin 128) : val_main_v25 (F := Ideal) x0 x1 x2 x3 (ix3 h i e) = turned x0 x1 x2 x3 i (col h e) := by
  rw [val_main_v25_apply]
  have a1 : val_main_v17 (F := Ideal) x0 x1 x3 (ix3 h i e) = proj (rows x0) (mat x3) i (col h e) * lanes x1 i e :=
    congrArg₂ (fun a b : EReal => a * b) (head_at x0 x3 h i e) (spread_lanes x1 h i e)
  have a2 : val_main_v21 (F := Ideal) x0 x3 (ix3 h i e)
      = if e.val < 64 then -(proj (rows x0) (mat x3) i (col h (half e))) else proj (rows x0) (mat x3) i (col h (half e)) := by
    refine (turned_halves (val_main_v6 (F := Ideal) x0 x3) h i e).trans ?_
    rw [head_at]
  have a3 : val_main_v24 (F := Ideal) x0 x2 x3 (ix3 h i e)
      = (if e.val < 64 then -(proj (rows x0) (mat x3) i (col h (half e))) else proj (rows x0) (mat x3) i (col h (half e))) * lanes x2 i e :=
    congrArg₂ (fun a b : EReal => a * b) a2 (spread_lanes x2 h i e)
  rw [a1, a3]
  unfold turned rope
  rw [lane_col, head_col]
  rfl
theorem turned_key_at (h : Fin 16) (i : Fin 2048) (e : Fin 128) : val_main_v36 (F := Ideal) x0 x1 x2 x4 (ix3 h i e) = turned x0 x1 x2 x4 i (col h e) :=
  turned_at x0 x1 x2 x4 h i e

/-- The block means. -/
theorem mean_at (h b : Fin 16) (e : Fin 128) : val_main_v40 (F := Ideal) x0 x1 x2 x3 (ix3 h b e) = Attn.pool (turned x0 x1 x2 x3) b (col h e) := by
  have a1 : val_main_v38 (F := Ideal) x0 x1 x2 x3 (ix3 h b e) = ∑ r : Fin 128, turned x0 x1 x2 x3 (col b r) (col h e) := by
    rw [val_main_v38_apply]
    have z : (val_main_cst (F := Ideal)) (Shape.Idx.first h_S_) = (0 : EReal) := Ideal.ofBits_zero .f32
    rw [z, zero_add]
    refine Finset.sum_congr rfl fun r _ => ?_
    rw [show idx_main_v38 (ix3 h b e) r = ix4 h b r e from funext fun a => match a with | ⟨0, _⟩ => rfl | ⟨1, _⟩ => rfl | ⟨2, _⟩ => rfl | ⟨3, _⟩ => rfl]
    exact (by_block _ h b r e).trans (turned_at x0 x1 x2 x3 h (col b r) e)
  have a2 : val_main_v39 (F := Ideal) (ix3 h b e) = ((128 : ℝ) : EReal) := word_128
  rw [val_main_v40_apply, a1, a2]
  rfl
theorem mean_key_at (h b : Fin 16) (e : Fin 128) : val_main_v44 (F := Ideal) x0 x1 x2 x4 (ix3 h b e) = Attn.pool (turned x0 x1 x2 x4) b (col h e) :=
  mean_at x0 x1 x2 x4 h b e

end Cert.ReferenceIdeal.Whole

end
-- ==== Proof.Softmax.lean ====
/-
  Softmax over real scores with some entries removed. Shifting every score by one real and dividing each exponential by
  the sum gives the same weighted mean as the unshifted exponentials, whatever the values are, infinite ones included;
  one score at least has to be kept.
-/
module

public import proofs.«01_k».proof.Proof.Spec
public import Mathlib.Data.Finset.Fold

@[expose] public section

noncomputable section

namespace Cert.Attn

open Idealize.ShloMosaic
open scoped Classical

/-- A finite sum of reals read in the extended reals. -/
theorem coe_sum {n : ℕ} (f : Fin n → ℝ) : ((∑ c : Fin n, f c : ℝ) : EReal) = ∑ c : Fin n, (f c : EReal) :=
  map_sum (⟨⟨fun r : ℝ => (r : EReal), EReal.coe_zero⟩, EReal.coe_add⟩ : ℝ →+ EReal) f Finset.univ

/-- A nonnegative real comes out of a finite sum of extended reals. -/
theorem mul_sum_real {n : ℕ} (r : ℝ) (hr : 0 ≤ r) (f : Fin n → EReal) : (r : EReal) * ∑ c : Fin n, f c = ∑ c : Fin n, (r : EReal) * f c := by
  have key : ∀ t : Finset (Fin n), (r : EReal) * ∑ c ∈ t, f c = ∑ c ∈ t, (r : EReal) * f c := fun t => by
    induction t using Finset.induction_on with
    | empty => rw [Finset.sum_empty, Finset.sum_empty, mul_zero]
    | insert a t ha ih =>
      rw [Finset.sum_insert ha, Finset.sum_insert ha, EReal.left_distrib_of_nonneg_of_ne_top (EReal.coe_nonneg.mpr hr) (EReal.coe_ne_top r), ih]
  exact key Finset.univ

/-- The scores that are kept, the others at the bottom. -/
def kept {n : ℕ} (P : Fin n → Prop) (s : Fin n → ℝ) (c : Fin n) : EReal := if P c then (s c : EReal) else ⊥
/-- The unshifted exponentials. -/
def mass {n : ℕ} (P : Fin n → Prop) (s : Fin n → ℝ) (c : Fin n) : ℝ := if P c then Real.exp (s c) else 0

/-- The largest kept score is real. -/
theorem kept_max {n : ℕ} (P : Fin n → Prop) (s : Fin n → ℝ) (hP : ∃ c, P c) :
    ∃ μ : ℝ, (Finset.univ : Finset (Fin n)).fold max ⊥ (kept P s) = (μ : EReal) := by
  obtain ⟨c, hc⟩ := hP
  have lo : (⊥ : EReal) < (Finset.univ : Finset (Fin n)).fold max ⊥ (kept P s) :=
    (Finset.lt_fold_max _).mpr (Or.inr ⟨c, Finset.mem_univ c, by unfold kept; rw [if_pos hc]; exact EReal.bot_lt_coe _⟩)
  have hi : (Finset.univ : Finset (Fin n)).fold max ⊥ (kept P s) < (⊤ : EReal) :=
    (Finset.fold_max_lt _).mpr ⟨bot_lt_top, fun d _ => by
      unfold kept
      split
      · exact EReal.coe_lt_top _
      · exact bot_lt_top⟩
  exact ⟨_, (EReal.coe_toReal hi.ne lo.ne').symm⟩

/-- The shifted exponential is the unshifted one times a positive real. -/
theorem exp_kept {n : ℕ} (P : Fin n → Prop) (s : Fin n → ℝ) (μ : ℝ) (c : Fin n) :
    Ideal.exp (kept P s c - (μ : EReal)) = ((mass P s c * Real.exp (-μ) : ℝ) : EReal) := by
  unfold kept mass
  by_cases h : P c
  · rw [if_pos h, if_pos h, ← EReal.coe_sub, Ideal.exp_coe, ← Real.exp_add, sub_eq_add_neg]
  · rw [if_neg h, if_neg h, EReal.bot_sub, Ideal.exp_bot, zero_mul, EReal.coe_zero]

theorem mass_pos {n : ℕ} (P : Fin n → Prop) (s : Fin n → ℝ) (hP : ∃ c, P c) : 0 < ∑ c : Fin n, mass P s c := by
  obtain ⟨c, hc⟩ := hP
  refine Finset.sum_pos' (fun d _ => ?_) ⟨c, Finset.mem_univ c, ?_⟩
  · unfold mass
    split
    · exact (Real.exp_pos _).le
    · exact le_rfl
  · unfold mass
    rw [if_pos hc]
    exact Real.exp_pos _

/-- The shifted softmax's weighted sum is the quotient of the unshifted sums. -/
theorem softmax {n : ℕ} (P : Fin n → Prop) (s : Fin n → ℝ) (v : Fin n → EReal) (hP : ∃ c, P c) (μ : ℝ) :
    ∑ c : Fin n, Ideal.div (Ideal.exp (kept P s c - (μ : EReal))) (∑ d : Fin n, Ideal.exp (kept P s d - (μ : EReal))) * v c
      = Ideal.div (∑ c : Fin n, (mass P s c : EReal) * v c) (∑ c : Fin n, (mass P s c : EReal)) := by
  have hZ := mass_pos P s hP
  have hk := Real.exp_pos (-μ)
  have total : ∑ d : Fin n, Ideal.exp (kept P s d - (μ : EReal)) = (((∑ d : Fin n, mass P s d) * Real.exp (-μ) : ℝ) : EReal) := by
    rw [Finset.sum_mul, coe_sum]
    exact Finset.sum_congr rfl fun d _ => exp_kept P s μ d
  rw [total, ← coe_sum, Ideal.div_coe hZ.ne', mul_comm (∑ c : Fin n, (mass P s c : EReal) * v c), mul_sum_real _ (by positivity)]
  refine Finset.sum_congr rfl fun c _ => ?_
  rw [exp_kept, Ideal.div_coe (mul_pos hZ hk).ne', ← EReal.coe_mul, ← mul_assoc, ← EReal.coe_mul]
  congr 2
  field_simp

end Cert.Attn

end
-- ==== Proof.RefGate.lean ====
/-
  The reference's gate and its scores: each block's score, the bit that keeps a block, the bit that keeps a key, and the
  kept scores, read at an index.
-/
module

public import proofs.«01_k».proof.Proof.RefHeads
public import proofs.«01_k».proof.Proof.Softmax
public import Idealize.ShloMosaic.Lib.WordCmp

@[expose] public section

set_option maxRecDepth 16384

noncomputable section

namespace Cert.ReferenceIdeal.Whole

open Cert.ReferenceIdeal Cert.ReferenceIdeal.Gen Cert.ReferenceIdeal.Read Idealize.ShloMosaic Idealize.ShloMosaic.TcCoe Cert.Attn

/-- The comparisons of positions at an index. -/
theorem earlier_at (h b q : Fin 16) : val_main_v65 (F := Ideal) (ix3 h b q) = BitVec.ofBool (decide (q ≤ b)) := by
  pointwise [val_main_v65, val_main_v64, val_main_v63, val_main_v61, val_main_v62, val_main_v59, val_main_v60, val_main_v56]
  rw [WordCmp.cmpi_sge_ofNat (by omega) (by omega)]
  rfl
theorem same_at (h b q : Fin 16) : val_main_v73 (F := Ideal) (ix3 h b q) = BitVec.ofBool (decide (q = b)) := by
  pointwise [val_main_v73, val_main_v72, val_main_v71, val_main_v69, val_main_v70, val_main_v67, val_main_v68, val_main_v56]
  rw [WordCmp.cmpi_eq_ofNat (by omega) (by omega)]
  congr 1
  exact decide_eq_decide.mpr (eq_comm.trans Fin.ext_iff.symm)
theorem causal_at (h : Fin 16) (i c : Fin 2048) : val_main_v86 (F := Ideal) (ix3 h i c) = BitVec.ofBool (decide (c ≤ i)) := by
  pointwise [val_main_v86, val_main_v85, val_main_v84, val_main_v82, val_main_v83, val_main_v80, val_main_v81, val_main_v79]
  rw [WordCmp.cmpi_sge_ofNat (by omega) (by omega)]
  rfl
/-- A bit per pair of blocks spread over the pairs of positions. -/
theorem spread_bits (y : IVec S16x16x16 1) (h : Fin 16) (i c : Fin 2048) :
    shapeCast S16x2048x2048 (broadcastInDim S16x2048x16x128 ![0, 1, 2] bcast_S16x2048x16_S16x2048x16x128_0_1_2
      (shapeCast S16x2048x16 (broadcastInDim S16x16x128x16 ![0, 1, 3] bcast_S16x16x16_S16x16x128x16_0_1_3 y) shapeCasts_S16x16x128x16_S16x2048x16))
      shapeCasts_S16x2048x16x128_S16x2048x2048 (ix3 h i c) = y (ix3 h (head i) (head c)) := by
  pointwise [head]

variable (x0 : FVec Ideal S1x2048x2048 .f32) (x1 x2 : FVec Ideal S1x2048x128 .f32) (x3 x4 x5 : FVec Ideal S2048x2048 .f32)

/-- Dividing by the root of the head's width. -/
theorem div_root (x : EReal) : Ideal.div x (Ideal.sqrt ((128 : ℝ) : EReal)) = x * (((Real.sqrt 128)⁻¹ : ℝ) : EReal) := by
  rw [Ideal.sqrt_coe, if_neg (show ¬ (128 : ℝ) < 0 by norm_num), Ideal.div_coe (by positivity), one_div]

/-- A block's score. -/
theorem score_at (h b q : Fin 16) : val_main_v49 (F := Ideal) x0 x1 x2 x3 x4 (ix3 h b q)
    = score (Attn.pool (turned x0 x1 x2 x3)) (Attn.pool (turned x0 x1 x2 x4)) h b q := by
  have a1 : val_main_v45 (F := Ideal) x0 x1 x2 x3 x4 (ix3 h b q)
      = ∑ e : Fin 128, Attn.pool (turned x0 x1 x2 x3) b (col h e) * Attn.pool (turned x0 x1 x2 x4) q (col h e) := by
    rw [val_main_v45_apply]
    refine Finset.sum_congr rfl fun e _ => congrArg₂ (· * ·) ?_ ?_
    · rw [show lidx_main_v45 (ix3 h b q) e = ix3 h b e from funext fun a => match a with | ⟨0, _⟩ => rfl | ⟨1, _⟩ => rfl | ⟨2, _⟩ => rfl]
      exact mean_at x0 x1 x2 x3 h b e
    · rw [show ridx_main_v45 (ix3 h b q) e = ix3 h q e from funext fun a => match a with | ⟨0, _⟩ => rfl | ⟨1, _⟩ => rfl | ⟨2, _⟩ => rfl]
      exact mean_key_at x0 x1 x2 x4 h q e
  rw [val_main_v49_apply, a1]
  show Ideal.div _ (Ideal.sqrt (Ideal.ofBits .f32 0x43000000#32)) = _
  rw [word_128]
  exact div_root _

/-- The logistic of a block's score. -/
theorem logistic_at (h b q : Fin 16) : val_main_v55 (F := Ideal) x0 x1 x2 x3 x4 (ix3 h b q)
    = Ideal.logistic (score (Attn.pool (turned x0 x1 x2 x3)) (Attn.pool (turned x0 x1 x2 x4)) h b q) := by
  rw [← score_at]
  have one : Ideal.ofBits .f32 0x3F800000#32 = 1 := Ideal.ofBits_one_f32
  show Ideal.div (Ideal.ofBits .f32 0x3F800000#32) (Ideal.ofBits .f32 0x3F800000#32 + Ideal.exp (-(val_main_v49 (F := Ideal) x0 x1 x2 x3 x4 (ix3 h b q)))) = _
  rw [one]
  rfl

open scoped Classical in
/-- The bit that keeps a block. -/
theorem gate_at (h b q : Fin 16) : val_main_v74 (F := Ideal) x0 x1 x2 x3 x4 (ix3 h b q)
    = BitVec.ofBool (decide (Gate (Attn.pool (turned x0 x1 x2 x3)) (Attn.pool (turned x0 x1 x2 x4)) h b q)) := by
  have a1 : val_main_v58 (F := Ideal) x0 x1 x2 x3 x4 (ix3 h b q)
      = BitVec.ofBool (decide (((1 / 2 : ℝ) : EReal) ≤ Ideal.logistic (score (Attn.pool (turned x0 x1 x2 x3)) (Attn.pool (turned x0 x1 x2 x4)) h b q))) := by
    show BitVec.ofBool (decide (Ideal.ofBits .f32 0x3F000000#32 ≤ val_main_v55 (F := Ideal) x0 x1 x2 x3 x4 (ix3 h b q))) = _
    rw [logistic_at, word_half]
  show IntOp.ori (IntOp.andi (val_main_v58 (F := Ideal) x0 x1 x2 x3 x4 (ix3 h b q)) (val_main_v65 (F := Ideal) (ix3 h b q))) (val_main_v73 (F := Ideal) (ix3 h b q)) = _
  rw [a1, earlier_at, same_at, WordCmp.andi_ofBool, WordCmp.ori_ofBool, ← Bool.decide_and, ← Bool.decide_or]
  congr 1
  exact decide_eq_decide.mpr Iff.rfl

/-- A key is kept for a query when its block is and it isn't later. -/
def keeps (h : Fin 16) (i c : Fin 2048) : Prop :=
  Gate (Attn.pool (turned x0 x1 x2 x3)) (Attn.pool (turned x0 x1 x2 x4)) h (head i) (head c) ∧ c ≤ i

open scoped Classical in
theorem keeps_at (h : Fin 16) (i c : Fin 2048) : val_main_v87 (F := Ideal) x0 x1 x2 x3 x4 (ix3 h i c) = BitVec.ofBool (decide (keeps x0 x1 x2 x3 x4 h i c)) := by
  have a1 := (spread_bits (val_main_v74 (F := Ideal) x0 x1 x2 x3 x4) h i c).trans (gate_at x0 x1 x2 x3 x4 h (head i) (head c))
  show IntOp.andi (val_main_v78 (F := Ideal) x0 x1 x2 x3 x4 (ix3 h i c)) (val_main_v86 (F := Ideal) (ix3 h i c)) = _
  rw [show val_main_v78 (F := Ideal) x0 x1 x2 x3 x4 (ix3 h i c) = _ from a1, causal_at, WordCmp.andi_ofBool, ← Bool.decide_and]
  congr 1
  exact decide_eq_decide.mpr Iff.rfl

/-- A key always keeps itself. -/
theorem keeps_self (h : Fin 16) (i : Fin 2048) : keeps x0 x1 x2 x3 x4 h i i := ⟨Or.inr rfl, le_rfl⟩

open scoped Classical in
/-- The kept scores. -/
theorem kept_at (h : Fin 16) (i c : Fin 2048) : val_main_v94 (F := Ideal) x0 x1 x2 x3 x4 (ix3 h i c)
    = if keeps x0 x1 x2 x3 x4 h i c then
        (∑ e : Fin 128, turned x0 x1 x2 x3 i (col h e) * turned x0 x1 x2 x4 c (col h e)) * (((Real.sqrt 128)⁻¹ : ℝ) : EReal)
      else ⊥ := by
  have a1 : val_main_v88 (F := Ideal) x0 x1 x2 x3 x4 (ix3 h i c) = ∑ e : Fin 128, turned x0 x1 x2 x3 i (col h e) * turned x0 x1 x2 x4 c (col h e) := by
    rw [val_main_v88_apply]
    refine Finset.sum_congr rfl fun e _ => congrArg₂ (· * ·) ?_ ?_
    · rw [show lidx_main_v88 (ix3 h i c) e = ix3 h i e from funext fun a => match a with | ⟨0, _⟩ => rfl | ⟨1, _⟩ => rfl | ⟨2, _⟩ => rfl]
      exact turned_at x0 x1 x2 x3 h i e
    · rw [show ridx_main_v88 (ix3 h i c) e = ix3 h c e from funext fun a => match a with | ⟨0, _⟩ => rfl | ⟨1, _⟩ => rfl | ⟨2, _⟩ => rfl]
      exact turned_key_at x0 x1 x2 x4 h c e
  have a2 : val_main_v92 (F := Ideal) x0 x1 x2 x3 x4 (ix3 h i c)
      = (∑ e : Fin 128, turned x0 x1 x2 x3 i (col h e) * turned x0 x1 x2 x4 c (col h e)) * (((Real.sqrt 128)⁻¹ : ℝ) : EReal) := by
    rw [val_main_v92_apply, a1]
    show Ideal.div _ (Ideal.sqrt (Ideal.ofBits .f32 0x43000000#32)) = _
    rw [word_128]
    exact div_root _
  have a3 : val_main_v93 (F := Ideal) (ix3 h i c) = (⊥ : EReal) := word_bot
  rw [val_main_v94_apply, keeps_at, a2, a3, WordCmp.select_decide]

end Cert.ReferenceIdeal.Whole

end
-- ==== Proof.Weights.lean ====
/-
  Over real queries and keys the attention result's weights are the unshifted exponentials of the kept scores; and the
  rotated projections of real arguments are real.
-/
module

public import proofs.«01_k».proof.Proof.Softmax

@[expose] public section

noncomputable section

namespace Cert.Attn

open Idealize.ShloMosaic
open scoped Classical

/-- A matrix of reals. -/
def AllReal {a b : ℕ} (t : Mat a b) : Prop := ∀ i j, ∃ r : ℝ, t i j = (r : EReal)

theorem proj_real {n : ℕ} (x : Mat n 2048) (w : Mat 2048 2048) (hx : AllReal x) (hw : AllReal w) : AllReal (proj x w) := fun i j => by
  choose f hf using hx i
  choose g hg using hw j
  refine ⟨∑ k : Fin 2048, f k * g k, ?_⟩
  rw [coe_sum]
  exact Finset.sum_congr rfl fun k _ => by rw [hf, hg, EReal.coe_mul]

theorem rope_real {n : ℕ} (t : Mat n 2048) (c s : Mat n 128) (ht : AllReal t) (hc : AllReal c) (hs : AllReal s) : AllReal (rope t c s) := fun i j => by
  obtain ⟨a, ha⟩ := ht i j
  obtain ⟨b, hb⟩ := ht i (col (head j) (half (lane j)))
  obtain ⟨x, hx⟩ := hc i (lane j)
  obtain ⟨y, hy⟩ := hs i (lane j)
  refine ⟨a * x + (if (lane j).val < 64 then -b else b) * y, ?_⟩
  unfold rope
  rw [ha, hb, hx, hy]
  split <;> push_cast <;> rfl

/-- The query with the scale and the change of base. -/
def scaled (q : Mat 2048 2048) : Mat 2048 2048 := fun i j => q i j * (((Real.sqrt 128)⁻¹ * (Real.log 2)⁻¹ : ℝ) : EReal)
/-- The penalties of a gate: nothing on a kept block's keys, infinite on a dropped one's. -/
def pens (G : Fin 16 → Fin 16 → Fin 16 → Prop) : Fin 16 → Mat 16 2048 := fun h b j => if G h b (head j) then 0 else ⊥
/-- The score of a key for a query row, over the reals. -/
def dot (q k : Fin 2048 → Fin 2048 → ℝ) (h : Fin 16) (i c : Fin 2048) : ℝ := (∑ e : Fin 128, q i (col h e) * k c (col h e)) * (Real.sqrt 128)⁻¹

/-- The exponential in base two of a score with the change of base is its exponential. -/
theorem exp2_score (x : ℝ) : Ideal.exp2 ((x * (Real.log 2)⁻¹ : ℝ) : EReal) = ((Real.exp x : ℝ) : EReal) := by
  rw [Ideal.exp2_coe]
  congr 1
  show (2 : ℝ) ^ (x * (Real.log 2)⁻¹) = Real.exp x
  rw [Real.rpow_def_of_pos (by norm_num)]
  congr 1
  have : Real.log 2 ≠ 0 := (Real.log_pos (by norm_num)).ne'
  field_simp

theorem weight_mass (q k : Fin 2048 → Fin 2048 → ℝ) (G : Fin 16 → Fin 16 → Fin 16 → Prop) (h : Fin 16) (i c : Fin 2048) :
    weight (scaled fun i j => (q i j : EReal)) (fun i j => (k i j : EReal)) (pens G) h i c
      = (mass (fun c => G h (head i) (head c) ∧ c ≤ i) (dot q k h i) c : EReal) := by
  have hs : ∑ e : Fin 128, scaled (fun i j => (q i j : EReal)) i (col h e) * (k c (col h e) : EReal) = ((dot q k h i c * (Real.log 2)⁻¹ : ℝ) : EReal) := by
    unfold dot
    rw [Finset.sum_mul, Finset.sum_mul, coe_sum]
    refine Finset.sum_congr rfl fun e _ => ?_
    unfold scaled
    rw [← EReal.coe_mul, ← EReal.coe_mul]
    congr 1
    ring
  unfold weight mass
  rw [hs]
  unfold pens
  by_cases hc : c ≤ i
  · by_cases hg : G h (head i) (head c)
    · rw [if_pos hc, if_pos hg, if_pos ⟨hg, hc⟩, add_zero, exp2_score]
    · rw [if_pos hc, if_neg hg, if_neg (fun p => hg p.1), EReal.add_bot, Ideal.exp2_bot, EReal.coe_zero]
  · rw [if_neg hc, if_neg (fun p => hc p.2), Ideal.exp2_bot, EReal.coe_zero]

/-- The attention result over real queries and keys. -/
theorem attn_mass (q k : Fin 2048 → Fin 2048 → ℝ) (v : Mat 2048 2048) (G : Fin 16 → Fin 16 → Fin 16 → Prop) (i j : Fin 2048) :
    attn (scaled fun i j => (q i j : EReal)) (fun i j => (k i j : EReal)) v (pens G) i j
      = Ideal.div (∑ c : Fin 2048, (mass (fun c => G (head j) (head i) (head c) ∧ c ≤ i) (dot q k (head j) i) c : EReal) * v c j)
          (∑ c : Fin 2048, (mass (fun c => G (head j) (head i) (head c) ∧ c ≤ i) (dot q k (head j) i) c : EReal)) := by
  unfold attn
  simp only [weight_mass]

end Cert.Attn

end
-- ==== Proof.RefOut.lean ====
/-
  The reference's result: the softmax of its kept scores over real queries and keys, the weighted values, and the last
  projection, read at an index as the layer's mathematics of the arguments.
-/
module

public import proofs.«01_k».proof.Proof.RefGate
public import proofs.«01_k».proof.Proof.Weights

@[expose] public section

set_option maxRecDepth 16384

noncomputable section

namespace Cert.ReferenceIdeal.Whole

open Cert.ReferenceIdeal Cert.ReferenceIdeal.Gen Cert.ReferenceIdeal.Read Idealize.ShloMosaic Idealize.ShloMosaic.TcCoe Cert.Attn
open scoped Classical

/-- The layout operations at an index, over any vectors. -/
theorem along_keys (y : FVec Ideal S16x2048 .f32) (h : Fin 16) (i c : Fin 2048) :
    broadcastInDim S16x2048x2048 ![0, 1, 2] bcast_S16x2048x1_S16x2048x2048_0_1_2 (broadcastInDim S16x2048x1 ![0, 1] bcast_S16x2048_S16x2048x1_0_1 y) (ix3 h i c)
      = y (ix2 h i) := by pointwise
theorem by_row (y : FVec Ideal S16x2048x128 .f32) (i j : Fin 2048) :
    shapeCast S2048x2048 (transpose S2048x16x128 [1, 0, 2] y transposes_S16x2048x128_S2048x16x128_1_0_2) shapeCasts_S2048x16x128_S2048x2048 (ix2 i j)
      = y (ix3 (head j) i (lane j)) := by pointwise [head, lane]
theorem with_batch (y : FVec Ideal S2048x2048 .f32) (i j : Fin 2048) :
    broadcastInDim S1x2048x2048 ![1, 2] bcast_S2048x2048_S1x2048x2048_1_2 y (ix3 0 i j) = y (ix2 i j) := by pointwise
/-- A maximum over the keys is the fold of `max`. -/
theorem reduces_keys : S16x2048x2048.Reduces [2] S16x2048 := by decide
theorem max_keys (y : FVec Ideal S16x2048x2048 .f32) (init : FVec Ideal S_ .f32) (h : Fin 16) (i : Fin 2048) :
    Host.reduce (FloatOps.maximumf (F := Ideal) (φ := .f32)) y init reducesTo_S16x2048x2048_S16x2048_d2 h_S_ (ix2 h i)
      = (Finset.univ : Finset (Fin 2048)).fold max (init (Shape.Idx.first h_S_) : EReal) (fun c => (y (ix3 h i c) : EReal)) := by
  refine (Host.reduce_eq_fold_single (α := EReal) max y init reducesTo_S16x2048x2048_S16x2048_d2 reduces_keys h_S_ (ix2 h i)).trans ?_
  congr 1
  funext c
  show y (reduces_keys.lift (ix2 h i) c) = _
  congr 1
  funext a
  match a with
  | ⟨0, _⟩ => rfl
  | ⟨1, _⟩ => rfl
  | ⟨2, _⟩ => rfl

variable (x0 : FVec Ideal S1x2048x2048 .f32) (x1 x2 : FVec Ideal S1x2048x128 .f32) (x3 x4 x5 x6 : FVec Ideal S2048x2048 .f32)

/-- The gate of the arguments. -/
def gate (h b q : Fin 16) : Prop := Gate (Attn.pool (turned x0 x1 x2 x3)) (Attn.pool (turned x0 x1 x2 x4)) h b q

section
variable (q k : Fin 2048 → Fin 2048 → ℝ) (hq : turned x0 x1 x2 x3 = fun i j => (q i j : EReal)) (hk : turned x0 x1 x2 x4 = fun i j => (k i j : EReal))
include hq hk

theorem scores_at (h : Fin 16) (i c : Fin 2048) : val_main_v94 (F := Ideal) x0 x1 x2 x3 x4 (ix3 h i c) = kept (keeps x0 x1 x2 x3 x4 h i) (dot q k h i) c := by
  rw [kept_at]
  unfold kept dot
  congr 1
  rw [EReal.coe_mul, coe_sum]
  congr 1
  exact Finset.sum_congr rfl fun e _ => by rw [hq, hk, EReal.coe_mul]

/-- The row's largest score. -/
theorem max_at (h : Fin 16) (i : Fin 2048) : val_main_v97 (F := Ideal) x0 x1 x2 x3 x4 (ix2 h i)
    = (Finset.univ : Finset (Fin 2048)).fold max ⊥ (kept (keeps x0 x1 x2 x3 x4 h i) (dot q k h i)) := by
  have a1 : val_main_v96 (F := Ideal) (ix2 h i) = (⊥ : EReal) := word_bot
  have a2 : val_main_v95 (F := Ideal) x0 x1 x2 x3 x4 (ix2 h i)
      = (Finset.univ : Finset (Fin 2048)).fold max ⊥ (kept (keeps x0 x1 x2 x3 x4 h i) (dot q k h i)) := by
    refine (max_keys (val_main_v94 (F := Ideal) x0 x1 x2 x3 x4) (val_main_cst_9 (F := Ideal)) h i).trans ?_
    rw [show (val_main_cst_9 (F := Ideal) (Shape.Idx.first h_S_) : EReal) = ⊥ from word_bot]
    congr 1
    exact funext fun c => scores_at x0 x1 x2 x3 x4 q k hq hk h i c
  rw [val_main_v97_apply, a1, a2]
  exact max_eq_right bot_le

/-- The weighted values. -/
theorem attended_at (h : Fin 16) (i : Fin 2048) (e : Fin 128) : val_main_v106 (F := Ideal) x0 x1 x2 x3 x4 x5 (ix3 h i e)
    = attn (scaled (turned x0 x1 x2 x3)) (turned x0 x1 x2 x4) (proj (rows x0) (mat x5)) (pens (gate x0 x1 x2 x3 x4)) i (col h e) := by
  obtain ⟨μ, hμ⟩ := kept_max (keeps x0 x1 x2 x3 x4 h i) (dot q k h i) ⟨i, keeps_self x0 x1 x2 x3 x4 h i⟩
  have a1 : ∀ c, val_main_v101 (F := Ideal) x0 x1 x2 x3 x4 (ix3 h i c) = Ideal.exp (kept (keeps x0 x1 x2 x3 x4 h i) (dot q k h i) c - (μ : EReal)) := fun c => by
    rw [← hμ, ← max_at x0 x1 x2 x3 x4 q k hq hk h i, ← scores_at x0 x1 x2 x3 x4 q k hq hk h i c,
      ← along_keys (val_main_v97 (F := Ideal) x0 x1 x2 x3 x4) h i c]
    rfl
  have a2 : val_main_v102 (F := Ideal) x0 x1 x2 x3 x4 (ix2 h i) = ∑ d : Fin 2048, Ideal.exp (kept (keeps x0 x1 x2 x3 x4 h i) (dot q k h i) d - (μ : EReal)) := by
    rw [val_main_v102_apply, show (val_main_cst_11 (F := Ideal)) (Shape.Idx.first h_S_) = (0 : EReal) from Ideal.ofBits_zero .f32, zero_add]
    refine Finset.sum_congr rfl fun d _ => ?_
    rw [show idx_main_v102 (ix2 h i) d = ix3 h i d from funext fun a => match a with | ⟨0, _⟩ => rfl | ⟨1, _⟩ => rfl | ⟨2, _⟩ => rfl]
    exact a1 d
  have a3 : ∀ c, val_main_v105 (F := Ideal) x0 x1 x2 x3 x4 (ix3 h i c)
      = Ideal.div (Ideal.exp (kept (keeps x0 x1 x2 x3 x4 h i) (dot q k h i) c - (μ : EReal)))
          (∑ d : Fin 2048, Ideal.exp (kept (keeps x0 x1 x2 x3 x4 h i) (dot q k h i) d - (μ : EReal))) := fun c => by
    rw [← a1, ← a2, ← along_keys (val_main_v102 (F := Ideal) x0 x1 x2 x3 x4) h i c]
    rfl
  rw [val_main_v106_apply, hq, hk, attn_mass, head_col]
  refine Eq.trans (Finset.sum_congr rfl fun c _ => congrArg₂ (fun a b : EReal => a * b) ?_ ?_)
    (softmax (keeps x0 x1 x2 x3 x4 h i) (dot q k h i) (fun c => proj (rows x0) (mat x5) c (col h e)) ⟨i, keeps_self x0 x1 x2 x3 x4 h i⟩ μ)
  · rw [show lidx_main_v106 (ix3 h i e) c = ix3 h i c from funext fun a => match a with | ⟨0, _⟩ => rfl | ⟨1, _⟩ => rfl | ⟨2, _⟩ => rfl]
    exact a3 c
  · rw [show ridx_main_v106 (ix3 h i e) c = ix3 h c e from funext fun a => match a with | ⟨0, _⟩ => rfl | ⟨1, _⟩ => rfl | ⟨2, _⟩ => rfl]
    exact value_at x0 x5 h c e

end

/-- The result at an index, for arguments of which the queries and keys are real. -/
theorem result_at (hx : AllReal (rows x0)) (hc : AllReal (lanes x1)) (hs : AllReal (lanes x2)) (hwq : AllReal (mat x3)) (hwk : AllReal (mat x4)) (i j : Fin 2048) :
    val_main_v111 (F := Ideal) x0 x1 x2 x3 x4 x5 x6 (ix3 0 i j)
      = proj (attn (scaled (turned x0 x1 x2 x3)) (turned x0 x1 x2 x4) (proj (rows x0) (mat x5)) (pens (gate x0 x1 x2 x3 x4))) (mat x6) i j := by
  choose q hq using rope_real _ _ _ (proj_real _ _ hx hwq) hc hs
  choose k hk using rope_real _ _ _ (proj_real _ _ hx hwk) hc hs
  refine (with_batch (val_main_v110 (F := Ideal) x0 x1 x2 x3 x4 x5 x6) i j).trans ?_
  rw [val_main_v110_apply]
  refine Finset.sum_congr rfl fun l _ => congrArg₂ (fun a b : EReal => a * b) ?_ ?_
  · rw [show lidx_main_v110 (ix2 i j) l = ix2 i l from funext fun a => match a with | ⟨0, _⟩ => rfl | ⟨1, _⟩ => rfl]
    refine (by_row (val_main_v106 (F := Ideal) x0 x1 x2 x3 x4 x5) i l).trans ?_
    rw [attended_at x0 x1 x2 x3 x4 x5 q k (funext fun a => funext fun b => hq a b) (funext fun a => funext fun b => hk a b), col_head_lane]
  · rw [show ridx_main_v110 (ix2 i j) l = ix2 l j from funext fun a => match a with | ⟨0, _⟩ => rfl | ⟨1, _⟩ => rfl]
    exact turn_mat x6 l j

end Cert.ReferenceIdeal.Whole

end
-- ==== Proof.Finite.lean ====
/-
  What the precondition says: every entry of the hidden states, the cosines, the sines and the query's and key's
  weights is a real.
-/
module

public import proofs.«01_k».proof.Proof.Gen.Pre_finite_scores
public import Idealize.ShloMosaic.Lib.ReduceAll
public import Idealize.ShloMosaic.PureOps.Ideal.Laws

@[expose] public section

noncomputable section

namespace Cert.Pre_finite_scores

open Cert.Pre_finite_scores Cert.Pre_finite_scores.Gen Idealize.ShloMosaic

/-- The conjunction of two bits. -/
theorem andi_one : ∀ a b : BitVec 1, IntOp.andi a b = 1#1 → a = 1#1 ∧ b = 1#1 := by decide

/-- An extended real of which the absolute value is below the infinite word is real. -/
theorem real_of_lt (x : EReal) (h : BitVec.ofBool (decide (max x (-x) < Ideal.ofBits .f32 0x7F800000#32)) = 1#1) : ∃ r : ℝ, x = (r : EReal) := by
  have top : Ideal.ofBits .f32 0x7F800000#32 = ⊤ := by simp [Ideal.ofBits, Ideal.ieee]
  rw [top] at h
  have lt : max x (-x) < ⊤ := by
    by_contra hn
    rw [decide_eq_false hn] at h
    exact absurd h (by decide)
  induction x with
  | bot => exact absurd lt (by simp)
  | top => exact absurd lt (by simp)
  | coe r => exact ⟨r, rfl⟩

instance : Subsingleton S_.Idx := ⟨fun a b => funext fun i => i.elim0⟩

/-- The precondition, entry by entry. -/
theorem real_of_fn (x0 : FVec Ideal S1x2048x2048 .f32) (x1 x2 : FVec Ideal S1x2048x128 .f32) (x3 x4 x5 x6 : FVec Ideal S2048x2048 .f32)
    (h : fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have e := congrFun h (Shape.Idx.first h_S_)
  dsimp only [fn, fn_part1] at e
  obtain ⟨e, e4⟩ := andi_one _ _ e
  obtain ⟨e, e3⟩ := andi_one _ _ e
  obtain ⟨e, e2⟩ := andi_one _ _ e
  obtain ⟨e0, e1⟩ := andi_one _ _ e
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i),
    fun i => real_of_lt _ (Host.reduce_andi_all _ _ _ _ _ e4 i)⟩

end Cert.Pre_finite_scores

end
-- ==== Proof.Algebraic.lean ====
/-
  The kernel and the reference end with equal results: both are the last projection of the gated causal attention of
  the arguments.
-/
module

public import proofs.«01_k».proof.Defs
public import proofs.«01_k».proof.Proof.Boundary
public import proofs.«01_k».proof.Proof.KernelRun
public import proofs.«01_k».proof.Proof.RefOut
public import proofs.«01_k».proof.Proof.Finite

@[expose] public section

noncomputable section

namespace Cert.Proof

open Idealize.ShloMosaic Idealize.ShloMosaic.TcCoe Idealize.SL.Sem Cert.Attn

/-- Two results that agree at every index of their one batch. -/
theorem result_ext (a b : FVec Ideal ⟨3, ![1, 2048, 2048]⟩ .f32) (h : ∀ i j : Fin 2048, a (ix3 0 i j) = b (ix3 0 i j)) : a = b := by
  funext y
  have hy : y = ix3 0 (y 1) (y 2) := funext fun d => match d with
    | ⟨0, _⟩ => Subsingleton.elim (α := Fin 1) _ _
    | ⟨1, _⟩ => rfl
    | ⟨2, _⟩ => rfl
  rw [hy]
  exact h _ _

theorem results_agree (m : (ℓ : Loc Cert.KernelIdeal.nD Cert.KernelIdeal.τ Cert.KernelIdeal.sig) → Buf (Elt Ideal) ℓ) (ρ : Dev Cert.KernelIdeal.nD → PrngReg)
    (hpre : Cert.Pre_KernelIdeal_finite_scores m) (c : Dev Cert.KernelIdeal.nD) :
    Cert.ReferenceIdeal.Read.val_main_v111 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Cert.KernelIdeal.Gen.W9 m ρ c (Proc.devRef .tc Cert.KernelIdeal.main_v11) := by
  obtain ⟨h0, h1, h2, h3, h4⟩ := Cert.Pre_finite_scores.real_of_fn _ _ _ _ _ _ _ (hpre c)
  refine result_ext _ _ fun i j => ?_
  refine (Cert.ReferenceIdeal.Whole.result_at _ _ _ _ _ _ _ (fun a b => h0 _) (fun a b => h1 _) (fun a b => h2 _) (fun a b => h3 _) (fun a b => h4 _) i j).trans ?_
  exact (Cert.KernelIdeal.Value.W9_out m ρ c i j).symm

theorem algebraic : Cert.algebraic_KernelIdeal_ReferenceIdeal_pre_finite_scores := by
  intro m ρ m' ρ' hpre hagree
  refine ⟨fun c => Cert.KernelIdeal.Gen.W9 m ρ c (Proc.devRef .tc Cert.KernelIdeal.main_v11),
    (θ_run Cert.KernelIdeal.defs _ _).mono (fun _ h => h.1) (Cert.KernelIdeal.Value.kernel_run m ρ), ?_⟩
  refine (θ_run Cert.ReferenceIdeal.defs _ _).mono (fun _ h c => ⟨(h c).1.trans ?_, (h c).2⟩) (Cert.ReferenceIdeal.Value.run (F := Ideal) m' ρ')
  obtain ⟨e0, e1, e2, e3, e4, e5, e6⟩ := hagree c
  rw [Cert.ReferenceIdeal.Read.val_main_v111_eq, e0, e1, e2, e3, e4, e5, e6]
  exact results_agree m ρ hpre c

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Claims
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_scores.Gen.facts,
    frame_p, frame_pi, fun m ρ _ => frame_pi m ρ trivial, frame_ri, fun m ρ _ => frame_ri m ρ trivial, preserves, algebraic⟩

end Cert.Proof

end
